-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![768, 384]⟩ ⟨2, ![768, 768]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![384, 768]⟩ ⟨2, ![768, 768]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S384x384 : Shape := ⟨2, ![384, 384]⟩
abbrev S8x48x768 : Shape := ⟨3, ![8, 48, 768]⟩
abbrev S9 : Shape := ⟨1, ![9]⟩
abbrev S8 : Shape := ⟨1, ![8]⟩
abbrev S1 : Shape := ⟨1, ![1]⟩
abbrev S_ : Shape := ⟨0, ![]⟩
abbrev S48x384 : Shape := ⟨2, ![48, 384]⟩
abbrev S48x768 : Shape := ⟨2, ![48, 768]⟩
abbrev S1x48x768 : Shape := ⟨3, ![1, 48, 768]⟩

abbrev nBuf : Space → Nat
  | .hbm => 3
  | .vmem => 5
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .bf16⟩
  | .local _ .vmem, ⟨0, _⟩ => ⟨S384x384, .f32⟩
  | .local _ .vmem, ⟨1, _⟩ => ⟨S384x768, .f32⟩
  | .local _ .vmem, ⟨2, _⟩ => ⟨S8x48x768, .bf16⟩
  | .local _ .vmem, ⟨3, _⟩ => ⟨S8x48x768, .bf16⟩
  | .local _ .vmem, ⟨4, _⟩ => ⟨S384x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 1 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v8 : BitVec 32 := Scalar.muli v5 c384_i32
  let v13 : BitVec 32 := Scalar.addi v8 c0_i32
  let c0_i32_9 : BitVec 32 := 0#32
  ![v13.toNat, 0]
def k0_dev1 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v54 : BitVec 32 := Scalar.muli v6 c2_i32_34
  let v55 : BitVec 32 := Scalar.addi c0_i32_35 v54
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v56 : BitVec 32 := Scalar.muli v5 c1_i32_36
  let v57 : BitVec 32 := Scalar.addi v55 v56
  v57.toNat
def k0_dev2 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v58 : BitVec 32 := Scalar.muli v2 c2_i32_38
  let v59 : BitVec 32 := Scalar.addi c0_i32_39 v58
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_40 : BitVec 32 := 1#32
  let v60 : BitVec 32 := Scalar.muli v7 c1_i32_40
  let v61 : BitVec 32 := Scalar.addi v59 v60
  v61.toNat
def k0_dev3 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v78 : BitVec 32 := Scalar.muli v6 c2_i32_58
  let v79 : BitVec 32 := Scalar.addi c0_i32_59 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v80 : BitVec 32 := Scalar.muli v5 c1_i32_60
  let v81 : BitVec 32 := Scalar.addi v79 v80
  v81.toNat
def k0_dev4 (d0 : Dev nD) : Nat :=
  let c0_i32_79 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_78 : BitVec 32 := 2#32
  let v102 : BitVec 32 := Scalar.muli v6 c2_i32_78
  let v103 : BitVec 32 := Scalar.addi c0_i32_79 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v104 : BitVec 32 := Scalar.muli v5 c1_i32_80
  let v105 : BitVec 32 := Scalar.addi v103 v104
  v105.toNat
def k0_dev5 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v126 : BitVec 32 := Scalar.muli v6 c2_i32_98
  let v127 : BitVec 32 := Scalar.addi c0_i32_99 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v128 : BitVec 32 := Scalar.muli v5 c1_i32_100
  let v129 : BitVec 32 := Scalar.addi v127 v128
  v129.toNat
def k0_dev6 (d0 : Dev nD) : Nat :=
  let c0_i32_119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_118 : BitVec 32 := 2#32
  let v150 : BitVec 32 := Scalar.muli v6 c2_i32_118
  let v151 : BitVec 32 := Scalar.addi c0_i32_119 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v152 : BitVec 32 := Scalar.muli v5 c1_i32_120
  let v153 : BitVec 32 := Scalar.addi v151 v152
  v153.toNat
def k0_dev7 (d0 : Dev nD) : Nat :=
  let c0_i32_139 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_138 : BitVec 32 := 2#32
  let v174 : BitVec 32 := Scalar.muli v6 c2_i32_138
  let v175 : BitVec 32 := Scalar.addi c0_i32_139 v174
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v176 : BitVec 32 := Scalar.muli v5 c1_i32_140
  let v177 : BitVec 32 := Scalar.addi v175 v176
  v177.toNat
def k0_dev8 (d0 : Dev nD) : Nat :=
  let c0_i32_159 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_158 : BitVec 32 := 2#32
  let v198 : BitVec 32 := Scalar.muli v6 c2_i32_158
  let v199 : BitVec 32 := Scalar.addi c0_i32_159 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_160 : BitVec 32 := 1#32
  let v200 : BitVec 32 := Scalar.muli v5 c1_i32_160
  let v201 : BitVec 32 := Scalar.addi v199 v200
  v201.toNat
def k0_dev9 (d0 : Dev nD) : Nat :=
  let c0_i32_179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_178 : BitVec 32 := 2#32
  let v222 : BitVec 32 := Scalar.muli v6 c2_i32_178
  let v223 : BitVec 32 := Scalar.addi c0_i32_179 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v224 : BitVec 32 := Scalar.muli v5 c1_i32_180
  let v225 : BitVec 32 := Scalar.addi v223 v224
  v225.toNat
def k0_dev10 (d0 : Dev nD) : Nat :=
  let c0_i32_199 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_198 : BitVec 32 := 2#32
  let v246 : BitVec 32 := Scalar.muli v6 c2_i32_198
  let v247 : BitVec 32 := Scalar.addi c0_i32_199 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_200 : BitVec 32 := 1#32
  let v248 : BitVec 32 := Scalar.muli v5 c1_i32_200
  let v249 : BitVec 32 := Scalar.addi v247 v248
  v249.toNat
def k0_off2 (d0 : Dev nD) (c0_i32_221 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v8 : BitVec 32 := Scalar.muli v5 c384_i32
  let v274 : BitVec 32 := Scalar.addi v8 c0_i32_221
  let c0_i32_223 : BitVec 32 := 0#32
  ![v274.toNat, 0]
def k0_dev11 (d0 : Dev nD) : Nat :=
  let c0_i32_230 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_229 : BitVec 32 := 2#32
  let v280 : BitVec 32 := Scalar.muli v2 c2_i32_229
  let v281 : BitVec 32 := Scalar.addi c0_i32_230 v280
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_231 : BitVec 32 := 1#32
  let v282 : BitVec 32 := Scalar.muli v7 c1_i32_231
  let v283 : BitVec 32 := Scalar.addi v281 v282
  v283.toNat
def k0_dev12 (d0 : Dev nD) : Nat :=
  let c0_i32_260 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_259 : BitVec 32 := 2#32
  let v312 : BitVec 32 := Scalar.muli v2 c2_i32_259
  let v313 : BitVec 32 := Scalar.addi c0_i32_260 v312
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_261 : BitVec 32 := 1#32
  let v314 : BitVec 32 := Scalar.muli v7 c1_i32_261
  let v315 : BitVec 32 := Scalar.addi v313 v314
  v315.toNat
def k0_dev13 (d0 : Dev nD) : Nat :=
  let c0_i32_290 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_289 : BitVec 32 := 2#32
  let v344 : BitVec 32 := Scalar.muli v2 c2_i32_289
  let v345 : BitVec 32 := Scalar.addi c0_i32_290 v344
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_291 : BitVec 32 := 1#32
  let v346 : BitVec 32 := Scalar.muli v7 c1_i32_291
  let v347 : BitVec 32 := Scalar.addi v345 v346
  v347.toNat
def k0_dev14 (d0 : Dev nD) : Nat :=
  let c0_i32_320 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_319 : BitVec 32 := 2#32
  let v376 : BitVec 32 := Scalar.muli v2 c2_i32_319
  let v377 : BitVec 32 := Scalar.addi c0_i32_320 v376
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_321 : BitVec 32 := 1#32
  let v378 : BitVec 32 := Scalar.muli v7 c1_i32_321
  let v379 : BitVec 32 := Scalar.addi v377 v378
  v379.toNat
def k0_dev15 (d0 : Dev nD) : Nat :=
  let c0_i32_350 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_349 : BitVec 32 := 2#32
  let v408 : BitVec 32 := Scalar.muli v2 c2_i32_349
  let v409 : BitVec 32 := Scalar.addi c0_i32_350 v408
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_351 : BitVec 32 := 1#32
  let v410 : BitVec 32 := Scalar.muli v7 c1_i32_351
  let v411 : BitVec 32 := Scalar.addi v409 v410
  v411.toNat
def k0_dev16 (d0 : Dev nD) : Nat :=
  let c0_i32_380 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_379 : BitVec 32 := 2#32
  let v440 : BitVec 32 := Scalar.muli v2 c2_i32_379
  let v441 : BitVec 32 := Scalar.addi c0_i32_380 v440
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_381 : BitVec 32 := 1#32
  let v442 : BitVec 32 := Scalar.muli v7 c1_i32_381
  let v443 : BitVec 32 := Scalar.addi v441 v442
  v443.toNat
def k0_dev17 (d0 : Dev nD) : Nat :=
  let c0_i32_410 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_409 : BitVec 32 := 2#32
  let v472 : BitVec 32 := Scalar.muli v2 c2_i32_409
  let v473 : BitVec 32 := Scalar.addi c0_i32_410 v472
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_411 : BitVec 32 := 1#32
  let v474 : BitVec 32 := Scalar.muli v7 c1_i32_411
  let v475 : BitVec 32 := Scalar.addi v473 v474
  v475.toNat
def k0_dev18 (d0 : Dev nD) : Nat :=
  let c0_i32_440 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_439 : BitVec 32 := 2#32
  let v504 : BitVec 32 := Scalar.muli v2 c2_i32_439
  let v505 : BitVec 32 := Scalar.addi c0_i32_440 v504
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_441 : BitVec 32 := 1#32
  let v506 : BitVec 32 := Scalar.muli v7 c1_i32_441
  let v507 : BitVec 32 := Scalar.addi v505 v506
  v507.toNat
def k0_off3 (d0 : Dev nD) (c0_i32_445 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c384_i32_5 : BitVec 32 := 384#32
  let v10 : BitVec 32 := Scalar.muli v9 c384_i32_5
  let v514 : BitVec 32 := Scalar.addi v10 c0_i32_445
  let c0_i32_451 : BitVec 32 := 0#32
  ![v514.toNat, 0]
-- ==== ReferenceIdeal.lean ====
abbrev S768x768 : Shape := ⟨2, ![768, 768]⟩

abbrev nBuf : Space → Nat
  | .hbm => 6
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x768, .f32⟩
  | .hbm, ⟨2, _⟩ => ⟨S768x768, .bf16⟩
  | .hbm, ⟨3, _⟩ => ⟨S768x768, .bf16⟩
  | .hbm, ⟨4, _⟩ => ⟨S768x768, .f32⟩
  | .hbm, ⟨5, _⟩ => ⟨S768x768, .bf16⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Loops.lean ====
/- The kernel of one device, written as five passes over its eight chunks.

   The printed kernel lists every chunk's operations one after another. Here the same operations are given
   once for a chunk `r`, and the kernel is the passes over `r = 0 … 7`; `body_eq` says that the two are the
   same program. Everything after this module is proved of a chunk `r` and not of eight texts. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 65536

noncomputable section

namespace Cert.KernelIdeal.Mm

open Idealize.ShloMosaic Idealize.ShloMosaic.TcCoe
open Idealize.SL Idealize.SL.Sem
open Cert.KernelIdeal.Gen

variable {F : FTy → Type} [FloatOps F]

/-- The effects of one TensorCore. -/
abbrev TEff (F : FTy → Type) := TpuEff nD τ sig (Elt F) Λ₀ .tc

/-! ## The buffers, chunk by chunk -/

abbrev mA : Memref sig .tc .hbm S768x384 .f32 := Memref.whole main_arg0
abbrev mB : Memref sig .tc .hbm S384x768 .f32 := Memref.whole main_arg1
abbrev mO : Memref sig .tc .hbm S768x768 .bf16 := Memref.whole main_v1
abbrev vA : Memref sig .tc .vmem S384x384 .f32 := Memref.whole cc0_scratch0
abbrev vB : Memref sig .tc .vmem S384x768 .f32 := Memref.whole cc0_scratch1
abbrev vS : Memref sig .tc .vmem S8x48x768 .bf16 := Memref.whole cc0_scratch2
abbrev vR : Memref sig .tc .vmem S8x48x768 .bf16 := Memref.whole cc0_scratch3
abbrev vD : Memref sig .tc .vmem S384x768 .bf16 := Memref.whole cc0_scratch4

theorem inbA : ∀ r : Fin 8, ∀ a, (![48 * r.val, 0] : Fin 2 → Nat) a + S48x384.size a ≤ S384x384.size a := by decide
theorem inbD : ∀ r : Fin 8, ∀ a, (![48 * r.val, 0] : Fin 2 → Nat) a + S48x768.size a ≤ S384x768.size a := by decide
theorem inbS : ∀ r : Fin 8, ∀ a, (![r.val, 0, 0] : Fin 3 → Nat) a + S1x48x768.size a ≤ S8x48x768.size a := by decide
theorem inb8 : ∀ r : Fin 8, ∀ a, (![r.val] : Fin 1 → Nat) a + S1.size a ≤ S8.size a := by decide
theorem inb9 : ∀ r : Fin 9, ∀ a, (![r.val] : Fin 1 → Nat) a + S1.size a ≤ S9.size a := by decide

/-- Chunk `r` of the staged block of `A`, of a staged partial product, of the reduced half. -/
abbrev rectA (r : Fin 8) : Rect S384x384 := Rect.unit (s := S384x384) ![48 * r.val, 0] S48x384.size (inbA r)
abbrev rectD (r : Fin 8) : Rect S384x768 := Rect.unit (s := S384x768) ![48 * r.val, 0] S48x768.size (inbD r)
abbrev rectS (r : Fin 8) : Rect S8x48x768 := Rect.unit (s := S8x48x768) ![r.val, 0, 0] S1x48x768.size (inbS r)

theorem wordsD : ∀ r : Fin 8, (rectD r).WholeWords (EltTy.packing .bf16) := by decide
theorem packedD : ∀ r : Fin 8, (rectD r).PackedRows (EltTy.packing .bf16) := by decide
theorem wordsS : ∀ r : Fin 8, (rectS r).WholeWords (EltTy.packing .bf16) := by decide
theorem packedS : ∀ r : Fin 8, (rectS r).PackedRows (EltTy.packing .bf16) := by decide

/-- Rows of `A` that device `d` takes as chunk `r`. -/
abbrev srcA (d : Dev nD) (r : Fin 8) : Memref sig .tc .hbm S48x384 .f32 :=
  mA.slice (Rect.unit (s := S768x384) (k0_off1 d (BitVec.ofNat 32 (48 * r.val))) S48x384.size (k0_off1_inb d r)) (fun _ => rfl)
abbrev stA (r : Fin 8) : Memref sig .tc .vmem S48x384 .f32 := vA.slice (rectA r) (fun _ => rfl)
/-- Rows of the result that device `d` reduces as chunk `r`, and those its `y` neighbour reduces. -/
abbrev ownO (d : Dev nD) (r : Fin 8) : Memref sig .tc .hbm S48x768 .bf16 :=
  mO.slice (Rect.unit (s := S768x768) (k0_off2 d (BitVec.ofNat 32 (48 * r.val))) S48x768.size (k0_off2_inb d r)) (fun _ => rfl)
abbrev othO (d : Dev nD) (r : Fin 8) : Memref sig .tc .hbm S48x768 .bf16 :=
  mO.slice (Rect.unit (s := S768x768) (k0_off3 d (BitVec.ofNat 32 (48 * r.val))) S48x768.size (k0_off3_inb d r)) (fun _ => rfl)
abbrev slS (r : Fin 8) : Memref sig .tc .vmem S48x768 .bf16 :=
  (vS.slice (rectS r) (fun _ => rfl)).squeeze S48x768 squeezes_S1x48x768_S48x768
abbrev slR (r : Fin 8) : Memref sig .tc .vmem S48x768 .bf16 :=
  (vR.slice (rectS r) (fun _ => rfl)).squeeze S48x768 squeezes_S1x48x768_S48x768
abbrev slD (r : Fin 8) : Memref sig .tc .vmem S48x768 .bf16 := vD.slice (rectD r) (fun _ => rfl)

abbrev inS (r : Fin 9) : DmaSem sig := ((cc0_scratch5.slice (Rect.unit (s := S9) ![r.val] S1.size (inb9 r))).squeeze S_ squeezes_S1_S_).sem
abbrev at8 (s : DmaSems sig S8) (r : Fin 8) : DmaSem sig :=
  ((s.slice (Rect.unit (s := S8) ![r.val] S1.size (inb8 r))).squeeze S_ squeezes_S1_S_).sem
abbrev xsS (r : Fin 8) : DmaSem sig := at8 cc0_scratch6 r
abbrev xrS (r : Fin 8) : DmaSem sig := at8 cc0_scratch7 r
abbrev ysS (r : Fin 8) : DmaSem sig := at8 cc0_scratch8 r
abbrev yrS (r : Fin 8) : DmaSem sig := at8 cc0_scratch9 r
abbrev locS (r : Fin 8) : DmaSem sig := at8 cc0_scratch10 r
abbrev barS : Sem sig := (SemArray.scalar (sig.barrier 0 rfl) : Sems sig S_).sem

/-! ## The passes over a chunk -/

/-- Start the load of chunk `r` of `A`. -/
def startA (d : Dev nD) (r : Fin 8) : Prog (TEff F) PUnit :=
  Prog.lift (.enqueueDma (srcA d r) (.here (stA r)) (.dma (inS r.castSucc)) (View.wordExact_bits rfl) (View.wordExact_bits rfl) ⟨Or.inl rfl, trivial⟩)

/-- Multiply chunk `r` of `A` into the block of `B`, and send the partial product to the `x` neighbour. -/
def sendX (d : Dev nD) (b : FVec F S384x768 .bf16) (r : Fin 8) : Prog (TEff F) (FVec F S48x768 .bf16) := do
  Prog.lift (.waitDma2 (inS r.castSucc) (srcA d r) (stA r) (View.wordExact_bits rfl) (View.wordExact_bits rfl))
  let a : Vec F S48x384 .f32 ← Prog.lift (.load vA (rectA r).toLoadRect (View.loadsAt_vmem h_S48x384))
  let _ : Vec F S1x48x768 .bf16 ← Prog.lift (.load vS (rectS r).toLoadRect (View.loadsAt_vmem h_S1x48x768))
  Prog.lift (.store vS (rectS r) (k0_pay5 b a) Finset.univ (View.stores_vmem h_S1x48x768 ((Memref.isWhole_whole _).storeExact_slice rfl _ (packedS r)) (fun _ => rfl)) (.inl rfl))
  Prog.lift (.enqueueDma (slS r) (.remote (Dev.tc (⟨k0_dev3 d, k0_dev3_lt d⟩ : Dev nD)) (slR r) (.dma (xsS r))) (.dma (xrS r)) (((Memref.isWhole_whole _).wordExact_slice rfl _ (wordsS r)).reshape _ _) (((Memref.isWhole_whole _).wordExact_slice rfl _ (wordsS r)).reshape _ _) ⟨⟨rfl, Or.inl rfl⟩, trivial⟩)
  pure (k0_pay4 b a)

/-- Add the `x` neighbour's partial product of chunk `r`, write the sum to the result and to the `y` neighbour's. -/
def sendY (d : Dev nD) (p : FVec F S48x768 .bf16) (r : Fin 8) : Prog (TEff F) PUnit := do
  Prog.lift (.waitDma2 (xrS r) (slS r) (slR r) (((Memref.isWhole_whole _).wordExact_slice rfl _ (wordsS r)).reshape _ _) (((Memref.isWhole_whole _).wordExact_slice rfl _ (wordsS r)).reshape _ _))
  let q : Vec F S1x48x768 .bf16 ← Prog.lift (.load vR (rectS r).toLoadRect (View.loadsAt_vmem h_S1x48x768))
  let _ : Vec F S48x768 .bf16 ← Prog.lift (.load vD (rectD r).toLoadRect (View.loadsAt_vmem h_S48x768))
  Prog.lift (.store vD (rectD r) (k0_pay18 p q) Finset.univ (View.stores_vmem h_S48x768 ((Memref.isWhole_whole _).storeExact_slice rfl _ (packedD r)) (fun _ => rfl)) (.inl rfl))
  Prog.lift (.enqueueDma (slD r) (.here (ownO d r)) (.dma (locS r)) ((Memref.isWhole_whole _).wordExact_slice rfl _ (wordsD r)) ((Memref.isWhole_whole _).wordExact_slice rfl _ (k0_off2_wordsbf16 d r)) ⟨Or.inl rfl, trivial⟩)
  Prog.lift (.enqueueDma (slD r) (.remote (Dev.tc (⟨k0_dev11 d, k0_dev11_lt d⟩ : Dev nD)) (ownO d r) (.dma (ysS r))) (.dma (yrS r)) ((Memref.isWhole_whole _).wordExact_slice rfl _ (wordsD r)) ((Memref.isWhole_whole _).wordExact_slice rfl _ (k0_off2_wordsbf16 d r)) ⟨⟨rfl, Or.inl rfl⟩, trivial⟩)

/-- Wait for the `y` neighbour's chunk `r`. -/
def waitY (d : Dev nD) (r : Fin 8) : Prog (TEff F) PUnit :=
  Prog.lift (.waitDma2 (yrS r) (slD r) (othO d r) ((Memref.isWhole_whole _).wordExact_slice rfl _ (wordsD r)) ((Memref.isWhole_whole _).wordExact_slice rfl _ (k0_off3_wordsbf16 d r)))

/-- Wait for chunk `r`'s own three transfers to have left. -/
def waitOwn (d : Dev nD) (r : Fin 8) : Prog (TEff F) PUnit := do
  Prog.lift (.waitDma2 (locS r) (slD r) (ownO d r) ((Memref.isWhole_whole _).wordExact_slice rfl _ (wordsD r)) ((Memref.isWhole_whole _).wordExact_slice rfl _ (k0_off2_wordsbf16 d r)))
  Prog.lift (.waitDma2 (ysS r) (ownO d r) (slD r) ((Memref.isWhole_whole _).wordExact_slice rfl _ (k0_off2_wordsbf16 d r)) ((Memref.isWhole_whole _).wordExact_slice rfl _ (wordsD r)))
  Prog.lift (.waitDma2 (xsS r) (slR r) (slS r) (((Memref.isWhole_whole _).wordExact_slice rfl _ (wordsS r)).reshape _ _) (((Memref.isWhole_whole _).wordExact_slice rfl _ (wordsS r)).reshape _ _))

/-- Start the load of the block of `B`. -/
def startB : Prog (TEff F) PUnit :=
  Prog.lift (.enqueueDma mB (.here vB) (.dma (inS 8)) (Memref.isWhole_whole _).wordExact (Memref.isWhole_whole _).wordExact ⟨Or.inl rfl, trivial⟩)

/-- Tell both neighbours that this device is ready, and wait until both are. -/
def handshake (d : Dev nD) : Prog (TEff F) PUnit := do
  semSignalWord (⟨k0_dev1 d, k0_dev1_lt d⟩ : Dev nD) barS 1#32
  semSignalWord (⟨k0_dev2 d, k0_dev2_lt d⟩ : Dev nD) barS 1#32
  semWaitWord barS 2#32

/-- Wait for the block of `B` and read it. -/
def takeB : Prog (TEff F) (FVec F S384x768 .bf16) := do
  Prog.lift (.waitDma2 (inS 8) mB vB (Memref.isWhole_whole _).wordExact (Memref.isWhole_whole _).wordExact)
  let b : Vec F S384x768 .f32 ← Prog.lift (.load vB (Rect.unit (s := S384x768) ![0, 0] S384x768.size inb_S384x768_S384x768_0_0).toLoadRect (View.loadsAt_vmem h_S384x768))
  pure (k0_pay1 b)

/-- A pass: `f` at the chunks `r, r + 1, …, r + n - 1`, the results collected. -/
def pass8 {α : Type} (f : Fin 8 → Prog (TEff F) α) : Prog (TEff F) (Fin 8 → α) := do
  let a0 ← f 0
  let a1 ← f 1
  let a2 ← f 2
  let a3 ← f 3
  let a4 ← f 4
  let a5 ← f 5
  let a6 ← f 6
  let a7 ← f 7
  pure ![a0, a1, a2, a3, a4, a5, a6, a7]

/-- The kernel of one device, in passes. -/
def passes : Prog (TEff F) PUnit := do
  let d : Dev nD ← Prog.lift .deviceId
  startB
  let _ ← pass8 (startA d)
  handshake d
  let b ← takeB
  let p ← pass8 (sendX d b)
  let _ ← pass8 fun r => sendY d (p r) r
  let _ ← pass8 (waitY d)
  let _ ← pass8 (waitOwn d)
  pure ⟨⟩

/-- The printed kernel is the passes. -/
theorem body_eq (t : Fin cfg0.N) : bodyAt0 (F := F) t = passes := by
  unfold bodyAt0
  rfl

end Cert.KernelIdeal.Mm

end
-- ==== Proof.Geom.lean ====
/- Where the chunks lie, and what each buffer holds.

   The mesh's devices are numbered `2 x + y`. `px c` differs from `c` in `x` (it holds the other half of the
   summed dimension), `py c` in `y` (it reduces the other half of the rows). Each buffer the kernel fills a
   chunk at a time is described by ONE contents for the whole buffer, put together from its chunks, so that
   every transfer of a chunk can be stated about that contents on the chunk's elements. -/
module

public import proofs.«01_k».proof.Proof.Loops
public import Idealize.ShloMosaic.Lib.Pipeline.Value

@[expose] public section

set_option maxRecDepth 65536

noncomputable section

namespace Cert.KernelIdeal.Mm

open Idealize.ShloMosaic Idealize.ShloMosaic.TcCoe
open Cert.KernelIdeal.Gen

variable {F : FTy → Type} [FloatOps F]

/-! ## Neighbours -/

/-- The neighbour along `x`, and along `y`. -/
def px (c : Dev nD) : Dev nD := ⟨k0_dev1 c, k0_dev1_lt c⟩
def py (c : Dev nD) : Dev nD := ⟨k0_dev2 c, k0_dev2_lt c⟩

theorem px_val (c : Dev nD) : (px c).val = ((c.val % 2) + 2) - 2 * (c.val / 2) := k0_dev1_eq c
theorem py_val (c : Dev nD) : (py c).val = (2 * (c.val / 2) + 1) - (c.val % 2) := k0_dev2_eq c

theorem lt4 (c : Dev nD) : c.val < 4 := c.isLt

theorem px_px (c : Dev nD) : px (px c) = c := by
  apply Fin.ext; have := lt4 c; rw [px_val, px_val]; omega
theorem py_py (c : Dev nD) : py (py c) = c := by
  apply Fin.ext; have := lt4 c; rw [py_val, py_val]; omega
theorem px_ne (c : Dev nD) : px c ≠ c := fun h => by
  have h := congrArg Fin.val h; have := lt4 c; rw [px_val] at h; omega
theorem py_ne (c : Dev nD) : py c ≠ c := fun h => by
  have h := congrArg Fin.val h; have := lt4 c; rw [py_val] at h; omega
theorem px_ne_py (c : Dev nD) : px c ≠ py c := fun h => by
  have h := congrArg Fin.val h; have := lt4 c; rw [px_val, py_val] at h; omega

theorem dev3_eq (c : Dev nD) : (⟨k0_dev3 c, k0_dev3_lt c⟩ : Dev nD) = px c := Fin.ext ((k0_dev3_eq c).trans (k0_dev1_eq c).symm)
theorem dev11_eq (c : Dev nD) : (⟨k0_dev11 c, k0_dev11_lt c⟩ : Dev nD) = py c := Fin.ext ((k0_dev11_eq c).trans (k0_dev2_eq c).symm)

/-- Each flip as a permutation of the devices. -/
def flipX : Dev nD ≃ Dev nD := ⟨px, px, px_px, px_px⟩
def flipY : Dev nD ≃ Dev nD := ⟨py, py, py_py, py_py⟩

/-! ## A buffer put together from its chunks -/

/-- The chunk a row of a half lies in, and the row within the chunk. -/
theorem chunk_lt {n : ℕ} (h : n < 384) : n / 48 < 8 := by omega
theorem inner_lt {n : ℕ} : n % 48 < 48 := Nat.mod_lt _ (by decide)

/-- 384 rows put together from eight chunks of 48. -/
def rows {α : Type} {w : ℕ} (x : Fin 8 → (⟨2, ![48, w]⟩ : Shape).Idx → α) : (⟨2, ![384, w]⟩ : Shape).Idx → α :=
  fun i => x ⟨(i 0).val / 48, chunk_lt (i 0).isLt⟩ (Shape.pair (d := ![48, w]) ⟨(i 0).val % 48, inner_lt⟩ (i 1))

/-- Eight slots, one chunk in each. -/
def slots {α : Type} (x : Fin 8 → S48x768.Idx → α) : S8x48x768.Idx → α :=
  fun i => x (i 0) (Shape.pair (d := ![48, 768]) (i 1) (i 2))

/-- At row `48 r + j` of the rows put together stands row `j` of chunk `r`. -/
theorem rows_at {α : Type} {w : ℕ} (x : Fin 8 → (⟨2, ![48, w]⟩ : Shape).Idx → α) (r : Fin 8) (j : (⟨2, ![48, w]⟩ : Shape).Idx)
    (i : (⟨2, ![384, w]⟩ : Shape).Idx) (h0 : (i 0).val = 48 * r.val + (j 0).val) (h1 : (i 1).val = (j 1).val) : rows x i = x r j := by
  have hj : (j 0).val < 48 := (j 0).isLt
  have hr : (⟨(i 0).val / 48, chunk_lt (i 0).isLt⟩ : Fin 8) = r := Fin.ext (by show (i 0).val / 48 = r.val; omega)
  unfold rows
  rw [hr]
  refine congrArg (x r) (Shape.idx_ext₂ ?_ ?_)
  · show (i 0).val % 48 = (j 0).val; omega
  · exact h1

theorem slots_at {α : Type} (x : Fin 8 → S48x768.Idx → α) (r : Fin 8) (j : S48x768.Idx) (i : S8x48x768.Idx)
    (h0 : (i 0).val = r.val) (h1 : (i 1).val = (j 0).val) (h2 : (i 2).val = (j 1).val) : slots x i = x r j := by
  have hr : (i 0 : Fin 8) = r := Fin.ext h0
  unfold slots
  show x (i 0 : Fin 8) _ = _
  rw [hr]
  exact congrArg (x r) (Shape.idx_ext₂ h1 h2)

/-! ## What every buffer holds -/

section Contents
variable (A : Dev nD → Vec F S768x384 .f32) (B : Dev nD → Vec F S384x768 .f32)

/-- Chunk `r` of the rows of `A` that device `c` works on. -/
def aChunk (c : Dev nD) (r : Fin 8) : Vec F S48x384 .f32 := (srcA c r).view.read (Elt F) (A c)
/-- Device `c`'s partial product of chunk `r`. -/
def part (c : Dev nD) (r : Fin 8) : FVec F S48x768 .bf16 := k0_pay4 (k0_pay1 (B c)) (aChunk A c r)
/-- The staged rows of `A`; the partial products sent, and those received. -/
def aBuf (c : Dev nD) : Vec F S384x384 .f32 := rows (aChunk A c)
def sBuf (c : Dev nD) : Vec F S8x48x768 .bf16 := slots (part A B c)
def rBuf (c : Dev nD) : Vec F S8x48x768 .bf16 := sBuf A B (px c)
/-- The sum of both partial products of chunk `r`. -/
def redChunk (c : Dev nD) (r : Fin 8) : FVec F S48x768 .bf16 :=
  k0_pay18 (part A B c r) (vR.view.readAt (Elt F) (rectS r).toLoadRect (rBuf A B c))
def dBuf (c : Dev nD) : Vec F S384x768 .bf16 := rows (redChunk A B c)
/-- The device of `c`'s row of the mesh (`x` kept) that reduces row `n` of the result. -/
def rowDev (c : Dev nD) (n : ℕ) : Dev nD := if n / 384 = c.val % 2 then c else py c
/-- The whole result on device `c`. -/
def oBuf (c : Dev nD) : Vec F S768x768 .bf16 := fun i =>
  dBuf A B (rowDev c (i 0).val) (Shape.pair (d := ![384, 768]) ⟨(i 0).val % 384, Nat.mod_lt _ (by decide)⟩ (i 1))

/-! ### Reading a chunk out of them -/

theorem read_stA (x : Fin 8 → Vec F S48x384 .f32) (r : Fin 8) : (stA r).view.read (Elt F) (rows x) = x r := by
  funext j
  exact rows_at x r j _ (by show 48 * r.val + 1 * (j 0).val = _; omega) (by show 0 + 1 * (j 1).val = _; omega)

theorem read_slD (x : Fin 8 → Vec F S48x768 .bf16) (r : Fin 8) : (slD r).view.read (Elt F) (rows x) = x r := by
  funext j
  exact rows_at x r j _ (by show 48 * r.val + 1 * (j 0).val = _; omega) (by show 0 + 1 * (j 1).val = _; omega)

/-- What a load of slot `r` yields: the chunk there, with a leading axis of extent one. -/
theorem readAt_slots (x : Fin 8 → Vec F S48x768 .bf16) (r : Fin 8) :
    shapeCast S48x768 (vR.view.readAt (Elt F) (rectS r).toLoadRect (slots x)) shapeCasts_S1x48x768_S48x768 = x r := by
  funext j
  rw [shapeCast_dropUnit_apply]
  exact slots_at x r j _ (by show r.val + 1 * 0 = _; omega) (by show 0 + 1 * (j 0).val = _; omega) (by show 0 + 1 * (j 1).val = _; omega)

theorem read_slS (x : Fin 8 → Vec F S48x768 .bf16) (r : Fin 8) : (slS r).view.read (Elt F) (slots x) = x r := readAt_slots x r
theorem read_slR (x : Fin 8 → Vec F S48x768 .bf16) (r : Fin 8) : (slR r).view.read (Elt F) (slots x) = x r := readAt_slots x r

/-- A chunk's sum is the elementwise sum of the two partial products. -/
theorem redChunk_eq (c : Dev nD) (r : Fin 8) : redChunk A B c r = addf (part A B c r) (part A B (px c) r) := by
  unfold redChunk k0_pay18 rBuf sBuf
  dsimp only
  rw [readAt_slots, shapeCast_self]

/-! ### The rows of the result, by place -/

theorem off1_0 (d : Dev nD) (r : Fin 8) : k0_off1 d (BitVec.ofNat 32 (48 * r.val)) 0 = 384 * (d.val % 2) + 48 * r.val := by rw [k0_off1_eq]; rfl
theorem off1_1 (d : Dev nD) (r : Fin 8) : k0_off1 d (BitVec.ofNat 32 (48 * r.val)) 1 = 0 := by rw [k0_off1_eq]; rfl
theorem off2_0 (d : Dev nD) (r : Fin 8) : k0_off2 d (BitVec.ofNat 32 (48 * r.val)) 0 = 384 * (d.val % 2) + 48 * r.val := by rw [k0_off2_eq]; rfl
theorem off2_1 (d : Dev nD) (r : Fin 8) : k0_off2 d (BitVec.ofNat 32 (48 * r.val)) 1 = 0 := by rw [k0_off2_eq]; rfl
theorem off3_eq (d : Dev nD) (r : Fin 8) : k0_off3 d (BitVec.ofNat 32 (48 * r.val)) = k0_off2 (py d) (BitVec.ofNat 32 (48 * r.val)) := by
  rw [k0_off3_eq, k0_off2_eq, py_val]
  have := lt4 d
  exact congrArg (fun n => ![n, 0]) (by omega)

/-- The rows a device's `y` neighbour reduces are, to that neighbour, its own. -/
theorem slice_off {off off' : Fin S768x768.rank → ℕ} (h : off = off') (hi : ∀ a, off a + S48x768.size a ≤ S768x768.size a)
    (hi' : ∀ a, off' a + S48x768.size a ≤ S768x768.size a) :
    mO.slice (Rect.unit (s := S768x768) off S48x768.size hi) (fun _ => rfl) = mO.slice (Rect.unit (s := S768x768) off' S48x768.size hi') (fun _ => rfl) := by
  subst h; rfl
theorem othO_eq (d : Dev nD) (r : Fin 8) : othO d r = ownO (py d) r := slice_off (off3_eq d r) _ _

/-- `oBuf c` read at the rows device `d` (of the same `x`) reduces: that device's sums. -/
theorem read_ownO (c d : Dev nD) (h : d = c ∨ d = py c) (r : Fin 8) : (ownO d r).view.read (Elt F) (oBuf A B c) = redChunk A B d r := by
  funext j
  have hj : (j 0).val < 48 := (j 0).isLt
  have hr := r.isLt
  have e0 : (((ownO d r).view.emb j) 0).val = 384 * (d.val % 2) + 48 * r.val + (j 0).val := by
    show k0_off2 d (BitVec.ofNat 32 (48 * r.val)) 0 + 1 * (j 0).val = _; rw [off2_0]; omega
  have e1 : (((ownO d r).view.emb j) 1).val = (j 1).val := by
    show k0_off2 d (BitVec.ofNat 32 (48 * r.val)) 1 + 1 * (j 1).val = _; rw [off2_1]; omega
  have hd : rowDev c (((ownO d r).view.emb j) 0).val = d := by
    unfold rowDev
    rw [e0]
    have := lt4 c
    rcases h with rfl | rfl
    · rw [if_pos (by omega)]
    · rw [if_neg (by rw [py_val]; omega)]
  show oBuf A B c ((ownO d r).view.emb j) = _
  unfold oBuf dBuf
  rw [hd]
  refine rows_at _ r j _ ?_ e1
  show (((ownO d r).view.emb j) 0).val % 384 = _
  rw [e0]; omega

end Contents

/-! ## The element sets of the chunks -/

section Sets

/-- A rectangle of whole rows holds the indices whose row is among them. -/
theorem mem_rows {n w k : ℕ} {off : Fin 2 → ℕ} (h : off 1 = 0) (inb : ∀ a, off a + (![k, w] : Fin 2 → ℕ) a ≤ (⟨2, ![n, w]⟩ : Shape).size a)
    (i : (⟨2, ![n, w]⟩ : Shape).Idx) :
    i ∈ (Rect.unit (s := ⟨2, ![n, w]⟩) off ![k, w] inb).set ↔ off 0 ≤ (i 0).val ∧ (i 0).val < off 0 + k := by
  rw [Rect.mem_set_unit]
  have h1 : (i 1).val < w := (i 1).isLt
  constructor
  · exact fun hm => hm 0
  · intro hm a
    match a with
    | ⟨0, _⟩ => exact hm
    | ⟨1, _⟩ => exact (show off 1 ≤ (i 1).val ∧ (i 1).val < off 1 + w by omega)

theorem mem_ownO {d : Dev nD} {r : Fin 8} {i : S768x768.Idx} :
    i ∈ (ownO d r).view.set ↔ 384 * (d.val % 2) + 48 * r.val ≤ (i 0).val ∧ (i 0).val < 384 * (d.val % 2) + 48 * r.val + 48 := by
  rw [show (ownO d r).view.set = _ from View.set_slice_whole _ _, ← off2_0 d r]
  exact mem_rows (off2_1 d r) (k0_off2_inb d r) i

theorem mem_srcA {d : Dev nD} {r : Fin 8} {i : S768x384.Idx} :
    i ∈ (srcA d r).view.set ↔ 384 * (d.val % 2) + 48 * r.val ≤ (i 0).val ∧ (i 0).val < 384 * (d.val % 2) + 48 * r.val + 48 := by
  rw [show (srcA d r).view.set = _ from View.set_slice_whole _ _, ← off1_0 d r]
  exact mem_rows (off1_1 d r) (k0_off1_inb d r) i

theorem mem_stA {r : Fin 8} {i : S384x384.Idx} : i ∈ (stA r).view.set ↔ 48 * r.val ≤ (i 0).val ∧ (i 0).val < 48 * r.val + 48 := by
  rw [show (stA r).view.set = _ from View.set_slice_whole _ _]
  exact mem_rows (off := ![48 * r.val, 0]) rfl (inbA r) i

theorem mem_slD {r : Fin 8} {i : S384x768.Idx} : i ∈ (slD r).view.set ↔ 48 * r.val ≤ (i 0).val ∧ (i 0).val < 48 * r.val + 48 := by
  rw [show (slD r).view.set = _ from View.set_slice_whole _ _]
  exact mem_rows (off := ![48 * r.val, 0]) rfl (inbD r) i

theorem mem_rectS {r : Fin 8} {i : S8x48x768.Idx} : i ∈ (rectS r).set ↔ (i 0).val = r.val := by
  rw [Rect.mem_set_unit]
  have h1 : (i 1).val < 48 := (i 1).isLt
  have h2 : (i 2).val < 768 := (i 2).isLt
  constructor
  · intro h
    have h0 : r.val ≤ (i 0).val ∧ (i 0).val < r.val + 1 := h 0
    omega
  · intro h a
    match a with
    | ⟨0, _⟩ => exact (show r.val ≤ (i 0).val ∧ (i 0).val < r.val + 1 by omega)
    | ⟨1, _⟩ => exact (show 0 ≤ (i 1).val ∧ (i 1).val < 0 + 48 by omega)
    | ⟨2, _⟩ => exact (show 0 ≤ (i 2).val ∧ (i 2).val < 0 + 768 by omega)

theorem slS_set (r : Fin 8) : (slS r).view.set = (rectS r).set := (View.set_reshape _ _).trans (View.set_slice_whole _ _)
theorem slR_set (r : Fin 8) : (slR r).view.set = (rectS r).set := (View.set_reshape _ _).trans (View.set_slice_whole _ _)

end Sets

end Cert.KernelIdeal.Mm

end
-- ==== Proof.Sched.lean ====
/- The protocol: the cells, what each transfer delivers, what each device owes.

   Each device has fifty semaphores: for each chunk one for its load (kind 0), its send along `x` (1), the
   receipt along `x` (2), its send along `y` (3), the receipt along `y` (4) and its own write to the result
   (5); one for the load of `B`; and the barrier. Each is used for one round. -/
module

public import proofs.«01_k».proof.Proof.Geom
public import proofs.«01_k».proof.Proof.Gen.KernelIdeal.Frame
public import Idealize.ShloMosaic.Lib.Pipeline.FrameBody
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 65536

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The semaphore of kind `k` for chunk `r`. -/
def own (k : Fin 6) (r : Fin 8) : DmaSem sig :=
  match k with
  | 0 => inS r.castSucc | 1 => xsS r | 2 => xrS r | 3 => ysS r | 4 => yrS r | 5 => locS r

/-- The device's own semaphores (the last is the load of `B`), and these with the barrier. -/
abbrev OS : Type := (Fin 6 × Fin 8) ⊕ Unit
abbrev CS : Type := OS ⊕ Unit
def osem : OS → SemLoc sig := Sum.elim (fun kr => .dma (own kr.1 kr.2)) (fun _ => .dma (inS 8))
def csem : CS → SemLoc sig := Sum.elim osem (fun _ => .reg barS)

theorem osem_facts : (∀ k, (osem k).isScoped .tc = true) ∧ Function.Injective osem := by decide
theorem csem_injective : Function.Injective csem := by decide

abbrev cell (c : Dev nD) (k : CS) : GSem nD τ sig := ((c : Thread nD τ), csem k)
abbrev chunkCell (c : Dev nD) (k : Fin 6) (r : Fin 8) : GSem nD τ sig := ((c : Thread nD τ), .dma (own k r))
abbrev loadCell (c : Dev nD) : GSem nD τ sig := ((c : Thread nD τ), .dma (inS 8))
abbrev barCell (c : Dev nD) : GSem nD τ sig := ((c : Thread nD τ), .reg barS)

/-- A DMA semaphore's kind (the load of `B` is 6) and chunk, off its number. -/
def kindOf (s : DmaSem sig) : ℕ := if s.val < 8 then 0 else if s.val = 8 then 6 else (s.val - 9) / 8 + 1
def chunkOf (s : DmaSem sig) : Fin 8 := if h : s.val < 8 then ⟨s.val, h⟩ else ⟨(s.val - 9) % 8, Nat.mod_lt _ (by decide)⟩

theorem kindOf_own : ∀ (k : Fin 6) (r : Fin 8), kindOf (own k r) = k.val := by decide
theorem chunkOf_own : ∀ (k : Fin 6) (r : Fin 8), chunkOf (own k r) = r := by decide
theorem kindOf_load : kindOf (inS 8) = 6 := by decide

/-! ## What is held of a chunk -/

section Held
variable (c : Dev nD) (r : Fin 8) (q : PosShare TreeShare)

def hA (f : Buf (Elt F) ((c : Thread nD τ).loc main_arg0)) : sProp 𝕄 := (c : Thread nD τ).loc main_arg0 ↦[(srcA c r).view.set]{fullShare} f
def hV (f : Buf (Elt F) ((c : Thread nD τ).loc cc0_scratch0)) : sProp 𝕄 := (c : Thread nD τ).loc cc0_scratch0 ↦[(stA r).view.set]{fullShare} f
def hS (f : Buf (Elt F) ((c : Thread nD τ).loc cc0_scratch2)) : sProp 𝕄 := (c : Thread nD τ).loc cc0_scratch2 ↦[(slS r).view.set]{fullShare} f
def hR (f : Buf (Elt F) ((c : Thread nD τ).loc cc0_scratch3)) : sProp 𝕄 := (c : Thread nD τ).loc cc0_scratch3 ↦[(slR r).view.set]{fullShare} f
def hD (f : Buf (Elt F) ((c : Thread nD τ).loc cc0_scratch4)) : sProp 𝕄 := (c : Thread nD τ).loc cc0_scratch4 ↦[(slD r).view.set]{q} f
/-- On device `c`, the rows of the result that device `d` reduces as chunk `r`. -/
def hO (d : Dev nD) (f : Buf (Elt F) ((c : Thread nD τ).loc main_v1)) : sProp 𝕄 := (c : Thread nD τ).loc main_v1 ↦[(ownO d r).view.set]{fullShare} f
/-- The block of `B`, as given and as staged. -/
def hB (f : Buf (Elt F) ((c : Thread nD τ).loc main_arg1)) : sProp 𝕄 := (c : Thread nD τ).loc main_arg1 ↦{fullShare} f
def hW (f : Buf (Elt F) ((c : Thread nD τ).loc cc0_scratch1)) : sProp 𝕄 := (c : Thread nD τ).loc cc0_scratch1 ↦{fullShare} f

omit [FloatOps F] in
instance hA_storable (f) : BI.Storable (upEmb : UEmb _ 𝕄) (hA (F := F) c r f) := by unfold hA; infer_instance
omit [FloatOps F] in
instance hV_storable (f) : BI.Storable (upEmb : UEmb _ 𝕄) (hV (F := F) c r f) := by unfold hV; infer_instance
omit [FloatOps F] in
instance hS_storable (f) : BI.Storable (upEmb : UEmb _ 𝕄) (hS (F := F) c r f) := by unfold hS; infer_instance
omit [FloatOps F] in
instance hR_storable (f) : BI.Storable (upEmb : UEmb _ 𝕄) (hR (F := F) c r f) := by unfold hR; infer_instance
omit [FloatOps F] in
instance hD_storable (f) : BI.Storable (upEmb : UEmb _ 𝕄) (hD (F := F) c r q f) := by unfold hD; infer_instance
omit [FloatOps F] in
instance hO_storable (d : Dev nD) (f) : BI.Storable (upEmb : UEmb _ 𝕄) (hO (F := F) c r d f) := by unfold hO; infer_instance
omit [FloatOps F] in
instance hB_storable (f) : BI.Storable (upEmb : UEmb _ 𝕄) (hB (F := F) c f) := by unfold hB; infer_instance
omit [FloatOps F] in
instance hW_storable (f) : BI.Storable (upEmb : UEmb _ 𝕄) (hW (F := F) c f) := by unfold hW; infer_instance

end Held

/-! ## What each cell's round delivers -/

section Payloads
variable (A : Dev nD → Vec F S768x384 .f32) (B : Dev nD → Vec F S384x768 .f32)

/-- What the barrier brings device `c`: from the `x` neighbour its receiving slots, from the `y` neighbour
    the rows of its result that `c` writes. -/
def barPay (c : Dev nD) (d : Bool) : sProp 𝕄 :=
  if d then bigSep Finset.univ fun r => iprop(∃ f, hO (py c) r c f) else bigSep Finset.univ fun r => iprop(∃ f, hR (px c) r f)

/-- What the round of kind `k`, chunk `r` brings device `c`. -/
def pay (c : Dev nD) (k : ℕ) (r : Fin 8) : sProp 𝕄 :=
  match k with
  | 0 => iprop(hV c r (aBuf A c) ∗ hA c r (A c))
  | 1 => hS c r (sBuf A B c)
  | 2 => hR c r (rBuf A B c)
  | 3 => hD c r fullShare.right (dBuf A B c)
  | 4 => hO c r (py c) (oBuf A B c)
  | 5 => iprop(hO c r c (oBuf A B c) ∗ hD c r fullShare.left (dBuf A B c))
  | _ => iprop(hW c (B c) ∗ hB c (B c))

instance pay_storable (c : Dev nD) (k : ℕ) (r : Fin 8) : BI.Storable (upEmb : UEmb _ 𝕄) (pay A B c k r) := by
  unfold pay; split <;> infer_instance
omit [FloatOps F] in
instance barPay_storable (c : Dev nD) (d : Bool) : BI.Storable (upEmb : UEmb _ 𝕄) (barPay (F := F) c d) := by
  unfold barPay; split <;> infer_instance

/-- The credit of a chunk of `A`, of the block of `B`, of a chunk of the result. -/
abbrev NA : ℕ := (stA 0).view.dmaCredit
abbrev NB : ℕ := vB.view.dmaCredit
abbrev NX : ℕ := (slD 0).view.dmaCredit
def amt (k : ℕ) : ℕ := if k = 0 then NA else if k = 6 then NB else NX
theorem amt_pos (k : ℕ) : 0 < amt k := by
  unfold amt; split
  · exact View.dmaCredit_pos _ (by decide)
  split
  · exact View.dmaCredit_pos _ (by decide)
  · exact View.dmaCredit_pos _ (by decide)

def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => amt (kindOf s)
  payload g _ d := match g.2 with | .reg _ => barPay g.1.1 d | .dma s => pay A B g.1.1 (kindOf s) (chunkOf s)
  amount_pos g _ _ _ := by split; exacts [Nat.one_pos, amt_pos _]

instance Rd_storable (g : GSem nD τ sig) (r : ℕ) (d : Bool) : BI.Storable (upEmb : UEmb _ 𝕄) ((Rd A B).payload g r d) := by
  show BI.Storable upEmb (match g.2 with | .reg _ => barPay g.1.1 d | .dma s => pay A B g.1.1 (kindOf s) (chunkOf s))
  split <;> infer_instance

section Tables
variable (c : Dev nD) (k : Fin 6) (r : Fin 8)

theorem duties_dma (s : DmaSem sig) : (Rd A B).duties ((c : Thread nD τ), .dma s) 0 = {false} := by dsimp only [Rd]; exact if_pos ⟨rfl, rfl⟩
theorem duties_bar : (Rd A B).duties (barCell c) 0 = Finset.univ := by dsimp only [Rd]; exact if_pos ⟨rfl, rfl⟩
theorem duties_later (g : GSem nD τ sig) : ∀ n, 1 ≤ n → (Rd A B).duties g n = ∅ := fun n hn => if_neg fun h => by omega
theorem mem_dma (s : DmaSem sig) : false ∈ (Rd A B).duties ((c : Thread nD τ), .dma s) 0 := by
  rw [duties_dma]; exact Finset.mem_singleton_self _
theorem mem_bar (d : Bool) : d ∈ (Rd A B).duties (barCell c) 0 := by rw [duties_bar]; exact Finset.mem_univ _

theorem amount_chunk : (Rd A B).amount (chunkCell c k r) 0 false = amt k.val := by
  show amt (kindOf (own k r)) = _; rw [kindOf_own]
theorem amount_load : (Rd A B).amount (loadCell c) 0 false = NB := by
  show amt (kindOf (inS 8)) = _; rw [kindOf_load]; rfl
theorem amount_bar (d : Bool) : (Rd A B).amount (barCell c) 0 d = 1 := rfl

theorem expect_dma (s : DmaSem sig) : (Rd A B).expect ((c : Thread nD τ), .dma s) 0 = amt (kindOf s) := by
  unfold Schedule.expect Schedule.amountOf; rw [duties_dma, Finset.sum_singleton]; rfl
theorem expect_chunk : (Rd A B).expect (chunkCell c k r) 0 = amt k.val := by rw [expect_dma, kindOf_own]
theorem expect_load : (Rd A B).expect (loadCell c) 0 = NB := by rw [expect_dma, kindOf_load]; rfl
theorem expect_bar : (Rd A B).expect (barCell c) 0 = 2 := by
  unfold Schedule.expect Schedule.amountOf; rw [duties_bar]; rfl

theorem payload_chunk : (Rd A B).payload (chunkCell c k r) 0 false = pay A B c k.val r := by
  show pay A B c (kindOf (own k r)) (chunkOf (own k r)) = _; rw [kindOf_own, chunkOf_own]
theorem payload_load : (Rd A B).payload (loadCell c) 0 false = iprop(hW c (B c) ∗ hB c (B c)) := by
  show pay A B c (kindOf (inS 8)) (chunkOf (inS 8)) = _; rw [kindOf_load]; rfl
theorem payload_bar (d : Bool) : (Rd A B).payload (barCell c) 0 d = barPay c d := rfl

theorem rest_chunk : bigSep ((Rd A B).duties (chunkCell c k r) 0 \ ∅) (fun d => (Rd A B).payload (chunkCell c k r) 0 d) = pay A B c k.val r := by
  rw [Finset.sdiff_empty, duties_dma, bigSep_singleton, payload_chunk]
theorem rest_load : bigSep ((Rd A B).duties (loadCell c) 0 \ ∅) (fun d => (Rd A B).payload (loadCell c) 0 d) = iprop(hW c (B c) ∗ hB c (B c)) := by
  rw [Finset.sdiff_empty, duties_dma, bigSep_singleton, payload_load]
theorem rest_bar : bigSep ((Rd A B).duties (barCell c) 0 \ ∅) (fun d => (Rd A B).payload (barCell c) 0 d)
    = iprop((bigSep Finset.univ fun r => iprop(∃ f, hR (px c) r f)) ∗ bigSep Finset.univ fun r => iprop(∃ f, hO (py c) r c f)) := by
  rw [Finset.sdiff_empty, duties_bar, bigSep_univ_eq_bigSepL [false, true] (by decide) (by decide), bigSepL_cons_cons, bigSepL_singleton]
  rfl

end Tables

end Payloads

/-! ## What each device owes; the levels -/

/-- What is owed to the `x` neighbour's receipts of chunks `n, …, 7`; to the `y` neighbour's. -/
def oX (c : Dev nD) (n : ℕ) : CellTallies nD τ sig Unit := ∑ r ∈ Finset.univ.filter (fun r : Fin 8 => n ≤ r.val), tallyAt (chunkCell (px c) 2 r) () NX
def oY (c : Dev nD) (n : ℕ) : CellTallies nD τ sig Unit := ∑ r ∈ Finset.univ.filter (fun r : Fin 8 => n ≤ r.val), tallyAt (chunkCell (py c) 4 r) () NX
def O₀ (c : Dev nD) : CellTallies nD τ sig Unit := oX c 0 + oY c 0 + tallyAt (barCell (py c)) () 1 + tallyAt (barCell (px c)) () 1

theorem sum_from {M : Type} [AddCommMonoid M] (f : Fin 8 → M) (r : Fin 8) :
    ∑ s ∈ Finset.univ.filter (fun s : Fin 8 => r.val ≤ s.val), f s = (∑ s ∈ Finset.univ.filter (fun s : Fin 8 => r.val + 1 ≤ s.val), f s) + f r := by
  rw [show Finset.univ.filter (fun s : Fin 8 => r.val ≤ s.val) = insert r (Finset.univ.filter (fun s : Fin 8 => r.val + 1 ≤ s.val)) by
    ext s
    simp only [Finset.mem_filter, Finset.mem_univ, true_and, Finset.mem_insert, Fin.ext_iff]
    omega]
  rw [Finset.sum_insert (by simp), add_comm]

theorem sum_done {M : Type} [AddCommMonoid M] (f : Fin 8 → M) :
    ∑ s ∈ Finset.univ.filter (fun s : Fin 8 => 8 ≤ s.val), f s = 0 := by
  rw [Finset.filter_false_of_mem (fun s _ => by have := s.isLt; omega), Finset.sum_empty]

theorem oX_peel (c : Dev nD) (r : Fin 8) : oX c r.val = oX c (r.val + 1) + tallyAt (chunkCell (px c) 2 r) () NX := sum_from _ r
theorem oY_peel (c : Dev nD) (r : Fin 8) : oY c r.val = oY c (r.val + 1) + tallyAt (chunkCell (py c) 4 r) () NX := sum_from _ r
theorem oX_done (c : Dev nD) : oX c 8 = 0 := sum_done _
theorem oY_done (c : Dev nD) : oY c 8 = 0 := sum_done _

def L (g : GSem nD τ sig) : Finset Unit := if g.1.2 = .tc then {()} else ∅
/-- Barriers at level 1, receipts along `x` at 2, along `y` at 3, the transfers a device starts for itself at 0. -/
def lv (g : GSem nD τ sig) (_ : Unit) : ℕ := match g.2 with
  | .reg _ => 1
  | .dma s => if kindOf s = 2 then 2 else if kindOf s = 4 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_chunk (c : Dev nD) (k : Fin 6) (r : Fin 8) (u : Unit) :
    lv (chunkCell c k r) u = if k.val = 2 then 2 else if k.val = 4 then 3 else 0 := by
  show (if kindOf (own k r) = 2 then 2 else if kindOf (own k r) = 4 then 3 else 0) = _
  rw [kindOf_own]

/-- A sum of tallies is positive only where one of them is. -/
theorem sum_tally_pos {S : Finset (Fin 8)} {C : Fin 8 → GSem nD τ sig} {N : ℕ} {g : GSem nD τ sig} {u : Unit}
    (h : 0 < (∑ r ∈ S, tallyAt (C r) () N : CellTallies nD τ sig Unit) g u) : ∃ r, g = C r := by
  rw [Finset.sum_apply, Finsupp.finset_sum_apply] at h
  obtain ⟨r, -, hr⟩ := Finset.exists_ne_zero_of_sum_ne_zero (Nat.ne_of_gt h)
  rw [tallyAt_apply] at hr
  by_cases hg : g = C r ∧ u = ()
  · exact ⟨r, hg.1⟩
  · rw [if_neg hg] at hr; exact absurd rfl hr

omit [FloatOps F] in
/-- A device that owes receipts along `x` and `y` may wait for a cell of level at most 1. -/
theorem mayWait_low (c : Dev nD) (sm : SemLoc sig) (hsm : lv ((c : Thread nD τ), sm) () ≤ 1) (n k : ℕ) :
    (levAts L lv : sProp 𝕄) ⊢ MayWait (c : Thread nD τ) sm () (oX c n + oY c k) := by
  have key : ∀ (g : GSem nD τ sig) (u : Unit), 0 < (oX c n + oY c k) g u → (∃ r, g = chunkCell (px c) 2 r) ∨ ∃ r, g = chunkCell (py c) 4 r := by
    intro g u h
    rw [Pi.add_apply, Finsupp.add_apply] at h
    by_cases h1 : 0 < oX c n g u
    · exact .inl (sum_tally_pos h1)
    · have h2 : 0 < oY c k g u := Nat.pos_of_ne_zero fun h0 => h1 (by rw [h0] at h; exact h)
      exact .inr (sum_tally_pos h2)
  refine MayOwe.of_cut (L := L) (lev := lv) 1 (fun p hp => by rw [Finset.mem_singleton.mp hp, L_tc]; exact Finset.mem_singleton_self _)
    (fun g u hg => ?_) (fun p hp => by rw [Finset.mem_singleton.mp hp]; exact hsm) (fun g u hg => ?_)
  · rcases key g u hg with ⟨r, rfl⟩ | ⟨r, rfl⟩ <;> (rw [L_tc]; exact Finset.mem_singleton_self _)
  · rcases key g u hg with ⟨r, rfl⟩ | ⟨r, rfl⟩ <;> rw [lv_chunk] <;> decide

omit [FloatOps F] in
/-- A device that owes receipts along `y` only may wait for its receipts along `x`. -/
theorem mayWait_x (c : Dev nD) (r : Fin 8) (k : ℕ) :
    (levAts L lv : sProp 𝕄) ⊢ MayWait (c : Thread nD τ) (.dma (own 2 r)) () (oY c k) := by
  refine MayOwe.of_cut (L := L) (lev := lv) 2 (fun p hp => by rw [Finset.mem_singleton.mp hp, L_tc]; exact Finset.mem_singleton_self _)
    (fun g u hg => ?_) (fun p hp => by rw [Finset.mem_singleton.mp hp]; exact (lv_chunk c 2 r ()).le) (fun g u hg => ?_)
  · obtain ⟨r, rfl⟩ := sum_tally_pos hg; rw [L_tc]; exact Finset.mem_singleton_self _
  · obtain ⟨r, rfl⟩ := sum_tally_pos hg; rw [lv_chunk]; decide

end Cert.KernelIdeal.Mm

end
-- ==== Proof.Steps.lean ====
/- Each pass at one chunk, run symbolically.

   For every program of `Loops` a lemma says what it takes and what it leaves, at any device `c` and any chunk
   `r`. A pass over the eight chunks then follows from its one chunk (`run_pass`). -/
module

public import proofs.«01_k».proof.Proof.Sched

@[expose] public section

set_option maxRecDepth 65536

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- Running `p` on device `c`'s TensorCore, to `Q`. -/
abbrev run {α : Type} (c : Dev nD) (p : Prog (TEff F) α) (Q : α → sProp 𝕄) : sProp 𝕄 :=
  wp frame (wpE (defs₀ (F := F)) 𝒱₀ (c : Thread nD τ) none) Set.univ p Q

variable (A : Dev nD → Vec F S768x384 .f32) (B : Dev nD → Vec F S384x768 .f32)

/-! ## What every device knows -/

/-- Every cell's invariant, under the names `K`, that every cell is at round 0 or past it, and the levels. -/
def know (K : Dev nD × CS → ℕ) : sProp 𝕄 :=
  iprop((bigSep Finset.univ fun ck : Dev nD × CS => cellInv ER (Rd A B) (K ck) (cell ck.1 ck.2))
    ∗ (bigSep Finset.univ fun ck : Dev nD × CS => reached ER (cell ck.1 ck.2) 0) ∗ levAts L lv)

instance know_persistent (K : Dev nD × CS → ℕ) : BI.Persistent (know A B K) := by unfold know; infer_instance

section Know
variable (K : Dev nD × CS → ℕ)

theorem know_inv (ck : Dev nD × CS) : know A B K ⊢ cellInv ER (Rd A B) (K ck) (cell ck.1 ck.2) := by
  unfold know
  exact sep_elim_left.trans (bigSep_elim (Finset.mem_univ ck))
theorem know_reached (ck : Dev nD × CS) : know A B K ⊢ reached ER (cell ck.1 ck.2) 0 := by
  unfold know
  exact sep_elim_right.trans (sep_elim_left.trans (bigSep_elim (Finset.mem_univ ck)))
theorem know_lev : know A B K ⊢ levAts L lv := by
  unfold know
  exact sep_elim_right.trans sep_elim_right

/-- The index of a chunk's cell, of the load of `B`'s, of the barrier's. -/
abbrev ic (k : Fin 6) (r : Fin 8) : CS := .inl (.inl (k, r))
abbrev il : CS := .inl (.inr ())
abbrev ib : CS := .inr ()

theorem inv_chunk (c : Dev nD) (k : Fin 6) (r : Fin 8) : know A B K ⊢ cellInv ER (Rd A B) (K (c, ic k r)) (chunkCell c k r) := know_inv A B K (c, ic k r)
theorem inv_load (c : Dev nD) : know A B K ⊢ cellInv ER (Rd A B) (K (c, il)) (loadCell c) := know_inv A B K (c, il)
theorem inv_bar (c : Dev nD) : know A B K ⊢ cellInv ER (Rd A B) (K (c, ib)) (barCell c) := know_inv A B K (c, ib)
theorem reached_chunk (c : Dev nD) (k : Fin 6) (r : Fin 8) : know A B K ⊢ reached ER (chunkCell c k r) 0 := know_reached A B K (c, ic k r)
theorem reached_load (c : Dev nD) : know A B K ⊢ reached ER (loadCell c) 0 := know_reached A B K (c, il)
theorem reached_bar (c : Dev nD) : know A B K ⊢ reached ER (barCell c) 0 := know_reached A B K (c, ib)

end Know

/-! ## A pass from its chunk -/

omit [FloatOps F] in
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem collect {α : Type} (val : Fin 8 → α) : ![val 0, val 1, val 2, val 3, val 4, val 5, val 6, val 7] = val :=
  funext fun r => by fin_cases r <;> rfl

/-- If the program at chunk `r` takes `P r` to `Q r`, and what passes along from `R r` to `R (r + 1)`, yielding
    `val r`, then the pass takes all of `P` to all of `Q`. -/
theorem run_pass {α : Type} (c : Dev nD) (f : Fin 8 → Prog (TEff F) α) (I : sProp 𝕄) [BI.Persistent I] (P Q : Fin 8 → sProp 𝕄) (R : ℕ → sProp 𝕄)
    (val : Fin 8 → α) (h : ∀ r : Fin 8, iprop(I ∗ P r ∗ R r.val) ⊢ run c (f r) (fun v => iprop(⌜v = val r⌝ ∗ Q r ∗ R (r.val + 1)))) :
    iprop(I ∗ bigSep Finset.univ P ∗ R 0) ⊢ run c (pass8 f) (fun vs => iprop(⌜vs = val⌝ ∗ bigSep Finset.univ Q ∗ R 8)) := by
  have step (r : Fin 8) (n n' : ℕ) (hn : r.val = n) (hn' : r.val + 1 = n') (k : α → Prog (TEff F) (Fin 8 → α)) (G : (Fin 8 → α) → sProp 𝕄) :
      iprop(I ∗ P r ∗ R n) ⊢ iprop((Q r -∗ R n' -∗ run c (k (val r)) G) -∗ run c (f r >>= k) G) := by
    subst hn hn'
    iintro H Hk
    ihave H := (h r) $$ H
    unfold run at *
    rw [wp_bind]
    iapply (wp_wand _ _ _) $$ H
    iintro %v ⟨%hv, HQ, HR⟩
    subst hv
    iapply Hk $$ HQ
    iexact HR
  rw [bigSep_eight P, bigSep_eight Q]
  unfold pass8
  iintro ⟨#HI, ⟨H0, H1, H2, H3, H4, H5, H6, H7⟩, HR⟩
  iapply (step 0 0 1 rfl rfl _ _) $$ [H0 HR]
  · isplitr; · iexact HI
    isplitl [H0] <;> iassumption
  iintro HQ0 HR
  iapply (step 1 1 2 rfl rfl _ _) $$ [H1 HR]
  · isplitr; · iexact HI
    isplitl [H1] <;> iassumption
  iintro HQ1 HR
  iapply (step 2 2 3 rfl rfl _ _) $$ [H2 HR]
  · isplitr; · iexact HI
    isplitl [H2] <;> iassumption
  iintro HQ2 HR
  iapply (step 3 3 4 rfl rfl _ _) $$ [H3 HR]
  · isplitr; · iexact HI
    isplitl [H3] <;> iassumption
  iintro HQ3 HR
  iapply (step 4 4 5 rfl rfl _ _) $$ [H4 HR]
  · isplitr; · iexact HI
    isplitl [H4] <;> iassumption
  iintro HQ4 HR
  iapply (step 5 5 6 rfl rfl _ _) $$ [H5 HR]
  · isplitr; · iexact HI
    isplitl [H5] <;> iassumption
  iintro HQ5 HR
  iapply (step 6 6 7 rfl rfl _ _) $$ [H6 HR]
  · isplitr; · iexact HI
    isplitl [H6] <;> iassumption
  iintro HQ6 HR
  iapply (step 7 7 8 rfl rfl _ _) $$ [H7 HR]
  · isplitr; · iexact HI
    isplitl [H7] <;> iassumption
  iintro HQ7 HR
  iapply (le_wp_ret _ _ _ _)
  rw [collect]
  isplitr; · ipureintro; rfl
  isplitr [HR]
  · isplitl [HQ0]; · iexact HQ0
    isplitl [HQ1]; · iexact HQ1
    isplitl [HQ2]; · iexact HQ2
    isplitl [HQ3]; · iexact HQ3
    isplitl [HQ4]; · iexact HQ4
    isplitl [HQ5]; · iexact HQ5
    isplitl [HQ6]; · iexact HQ6
    iexact HQ7
  · iexact HR

/-! ## What lands -/

omit [FloatOps F] in
/-- Contents that read the same through a view agree on its elements. -/
theorem agree {sp : Space} {s : Shape} {e : EltTy} (v : View sig .tc sp s e) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

omit [FloatOps F] in
/-- What is written through a view agrees there with any contents that read as the written values. -/
theorem agree_write {sp : Space} {s : Shape} {e : EltTy} (v : View sig .tc sp s e) {f g : v.ty.Contents (Elt F)} {x : s.Idx → Elt F e}
    (h : v.read (Elt F) g = x) : ∀ i ∈ v.set, v.write (Elt F) f x Finset.univ i = g i :=
  agree v (by rw [View.read_write_univ, h])

section Land
variable (c : Dev nD) (r : Fin 8)

theorem land_V (f : Buf (Elt F) ((c : Thread nD τ).loc cc0_scratch0)) :
    hV c r ((stA r).view.write (Elt F) f ((srcA c r).view.read (Elt F) (A c)) Finset.univ) = hV c r (aBuf A c) := by
  unfold hV
  exact pointsTo_congr (agree_write (stA r).view (read_stA (aChunk A c) r))

theorem land_W (f : Buf (Elt F) ((c : Thread nD τ).loc cc0_scratch1)) :
    hW c (vB.view.write (Elt F) f (mB.view.read (Elt F) (B c)) Finset.univ) = hW c (B c) := by
  unfold hW
  exact congrArg _ (View.write_whole_univ _ _ _)

/-- A stored partial product. -/
theorem stored_S (f : Buf (Elt F) ((c : Thread nD τ).loc cc0_scratch2)) :
    hS c r ((vS.access (rectS r)).write (Elt F) f (k0_pay5 (k0_pay1 (B c)) (aChunk A c r)) Finset.univ) = hS c r (sBuf A B c) := by
  unfold hS
  refine pointsTo_congr (agree (slS r).view ?_)
  unfold sBuf
  rw [read_slS]
  show shapeCast S48x768 ((vS.access (rectS r)).read (Elt F) _) shapeCasts_S1x48x768_S48x768 = _
  rw [View.read_write_univ]
  exact shapeCast_shapeCast _ _ _

theorem land_R (f : Buf (Elt F) ((px c : Thread nD τ).loc cc0_scratch3)) :
    hR (px c) r ((slR r).view.write (Elt F) f ((slS r).view.read (Elt F) (sBuf A B c)) Finset.univ) = hR (px c) r (rBuf A B (px c)) := by
  unfold hR
  refine pointsTo_congr (agree_write (slR r).view ?_)
  unfold rBuf sBuf
  rw [px_px, read_slR, read_slS]

/-- A stored sum. -/
theorem stored_D (f : Buf (Elt F) ((c : Thread nD τ).loc cc0_scratch4)) :
    hD c r fullShare ((vD.access (rectD r)).write (Elt F) f (redChunk A B c r) Finset.univ) = hD c r fullShare (dBuf A B c) := by
  unfold hD
  exact pointsTo_congr (agree_write (slD r).view (read_slD (redChunk A B c) r))

theorem land_O (d : Dev nD) (hd : c = d ∨ c = py d) (f : Buf (Elt F) ((d : Thread nD τ).loc main_v1)) :
    hO d r c ((ownO c r).view.write (Elt F) f ((slD r).view.read (Elt F) (dBuf A B c)) Finset.univ) = hO d r c (oBuf A B d) := by
  unfold hO
  refine pointsTo_congr (agree_write (ownO c r).view ?_)
  rw [read_ownO A B d c hd]
  exact (read_slD (redChunk A B c) r).symm

end Land

/-! ## Waiting for a chunk's cell -/

/-- A wait for the round of cell `k` of chunk `r`: what it delivers, and the semaphore back at zero. -/
theorem step_wait (K : Dev nD × CS → ℕ) (c : Dev nD) (k : Fin 6) (r : Fin 8) {s : DmaSem sig} (hs : own k r = s)
    {sp sp' : Space} {sh : Shape} {e : EltTy} {src : Memref sig .tc sp sh e} {dst : Memref sig .tc sp' sh e} (hd : dst.view.dmaCredit = amt k.val)
    {h1 : src.view.WordExact} {h2 : dst.view.WordExact} {α : Type} {Q : α → sProp 𝕄} {p : PUnit → Prog (TEff F) α}
    (O : CellTallies nD τ sig Unit) {P : sProp 𝕄} (hP : pay A B c k.val r = P) :
    iprop(know A B K ∗ cred (tallyAt (chunkCell c k r) () (amt k.val)) ∗ (∃ W, owes (c : Thread nD τ) O W)
        ∗ MayWait (c : Thread nD τ) (.dma (own k r)) () O ∗ atPos ER (chunkCell c k r) 0 ∅ 0)
      ⊢ iprop((((∃ W, owes (c : Thread nD τ) O W) ∗ semVal (chunkCell c k r) 0 ∗ P) -∗ run c (p ⟨⟩) Q)
          -∗ run c (.op (.waitDma2 s src dst h1 h2) p) Q) := by
  subst hs hP
  iintro ⟨#HI, Hc, ⟨%W, HO⟩, Hm, Hat⟩ Hk
  iapply (Rounds.wp_wait_rest_token 𝒱₀ ER (Rd A B) (c : Thread nD τ) none (κ := K (c, ic k r))
      (wpE_waitDma2_eq 𝒱₀ (c : Thread nD τ) none Set.univ) (Set.mem_univ _) () (O := O) (W := W) (R := 0) (m := 0) (T := ∅)
      (by rw [expect_chunk, Nat.zero_add]; exact hd)) $$ [Hc HO Hm Hat]
  · isplitr; · iapply (inv_chunk A B K c k r); iexact HI
    isplitl [Hc]; · rw [hd]; iexact Hc
    isplitl [HO]; · iexact HO
    isplitl [Hm] <;> iassumption
  iintro ⟨HO, Hat, -, Hp⟩
  ihave Hp := (Entails.of_eq (rest_chunk A B c k r)) $$ Hp
  imod (Rounds.cell_close ER (Rd A B) (Set.mem_univ (K (c, ic k r))) (fun h => h) (R := 0 + 1) (duties_later A B (chunkCell c k r))) $$ [Hat] with Hz
  · isplitr; · iapply (inv_chunk A B K c k r); iexact HI
    iexact Hat
  iapply Hk
  isplitl [HO]; · iexists _; iexact HO
  isplitl [Hz] <;> iassumption

end Cert.KernelIdeal.Mm

end
-- ==== Proof.Passes.lean ====
/- The programs of `Loops` at one chunk: what each takes, what it leaves. -/
module

public import proofs.«01_k».proof.Proof.Steps

@[expose] public section

set_option maxRecDepth 65536

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## What a pass takes and leaves -/

section Shares
variable (c : Dev nD) (k : Fin 6) (r : Fin 8)

/-- The right to pay the round of cell `k` of chunk `r`; the right to wait for it; a wait's credit; the
    semaphore back at zero. -/
abbrev tok : sProp 𝕄 := dutyTok ER (chunkCell c k r) 0 false
abbrev pos : sProp 𝕄 := atPos ER (chunkCell c k r) 0 ∅ 0
abbrev crd : sProp 𝕄 := cred (tallyAt (chunkCell c k r) () (amt k.val))
abbrev nul : sProp 𝕄 := semVal (chunkCell c k r) 0
/-- Owing `O`, having waited for whatever. -/
abbrev owing (O : CellTallies nD τ sig Unit) : sProp 𝕄 := iprop(∃ W, owes (c : Thread nD τ) O W)

end Shares

variable (A : Dev nD → Vec F S768x384 .f32) (B : Dev nD → Vec F S384x768 .f32) (K : Dev nD × CS → ℕ) (c : Dev nD) (r : Fin 8)

def inStartA : sProp 𝕄 := iprop(hA c r (A c) ∗ (∃ f, hV c r f) ∗ tok c 0 r)
def inSendX : sProp 𝕄 := iprop(crd c 0 r ∗ pos c 0 r ∗ (∃ f, hS c r f) ∗ (∃ f, hR (px c) r f) ∗ tok c 1 r ∗ tok (px c) 2 r)
def outSendX : sProp 𝕄 := iprop(hA c r (A c) ∗ hV c r (aBuf A c) ∗ nul c 0 r ∗ crd c 1 r)
def inSendY : sProp 𝕄 :=
  iprop(crd c 2 r ∗ pos c 2 r ∗ (∃ f, hD c r fullShare f) ∗ (∃ f, hO c r c f) ∗ (∃ f, hO (py c) r c f) ∗ tok c 5 r ∗ tok c 3 r ∗ tok (py c) 4 r)
def outSendY : sProp 𝕄 := iprop(hR c r (rBuf A B c) ∗ nul c 2 r ∗ crd c 5 r ∗ crd c 3 r)
def inWaitY : sProp 𝕄 := iprop(crd c 4 r ∗ pos c 4 r)
def outWaitY : sProp 𝕄 := iprop(hO c r (py c) (oBuf A B c) ∗ nul c 4 r)
def inWaitOwn : sProp 𝕄 := iprop((crd c 5 r ∗ crd c 3 r ∗ crd c 1 r) ∗ pos c 5 r ∗ pos c 3 r ∗ pos c 1 r)
def outWaitOwn : sProp 𝕄 :=
  iprop(hO c r c (oBuf A B c) ∗ hD c r fullShare (dBuf A B c) ∗ hS c r (sBuf A B c) ∗ nul c 5 r ∗ nul c 3 r ∗ nul c 1 r)

omit [FloatOps F] in
/-- A chunk of sums, held in halves: one for the copy into the own result, one for the neighbour's. -/
theorem split_D (f : Buf (Elt F) ((c : Thread nD τ).loc cc0_scratch4)) :
    hD c r fullShare f ⊣⊢ iprop(hD c r fullShare.left f ∗ hD c r fullShare.right f) := by
  unfold hD
  exact pointsTo_share (PosShare.mem_left_op_right fullShare)

/-! ## The transfers -/

section Transfers

/-- A transfer a device makes for itself, paying the round of its cell `k` of chunk `r`. -/
theorem step_copy (k : Fin 6) {s : DmaSem sig} (hs : own k r = s) {sp sp' : Space} {sh : Shape} {e : EltTy}
    {src : Memref sig .tc sp sh e} {dst : Memref sig .tc sp' sh e} (hd : dst.view.dmaCredit = amt k.val)
    {h1 : src.view.WordExact} {h2 : dst.view.WordExact} {h3 : DmaTarget.Typed sp (.dma s) (.here dst : DmaTarget nD τ sig .tc sp' sh e)}
    {α : Type} {Q : α → sProp 𝕄} {p : PUnit → Prog (TEff F) α} {q : PosShare TreeShare}
    (fs : Buf (Elt F) (src.view.loc (c : Thread nD τ))) (fd : Buf (Elt F) (dst.view.loc (c : Thread nD τ)))
    (hpay : iprop((dst.view.loc (c : Thread nD τ) ↦[dst.view.set]{fullShare} dst.view.write (Elt F) fd (src.view.read (Elt F) fs) Finset.univ)
        ∗ (src.view.loc (c : Thread nD τ) ↦[src.view.set]{q} fs)) ⊢ pay A B c k.val r) :
    iprop(know A B K ∗ (src.view.loc (c : Thread nD τ) ↦[src.view.set]{q} fs) ∗ (dst.view.loc (c : Thread nD τ) ↦[dst.view.set]{fullShare} fd) ∗ tok c k r)
      ⊢ iprop((crd c k r -∗ run c (p ⟨⟩) Q) -∗ run c (.op (.enqueueDma src (.here dst) (.dma s) h1 h2 h3) p) Q) := by
  subst hs
  iintro ⟨#HI, Hs, Hd, Ht⟩
  iapply (Rounds.wp_copy_pointsTo 𝒱₀ ER (Rd A B) (c : Thread nD τ) none (κ := K (c, ic k r)) (mem_dma A B c (own k r)) () (amt k.val)
      hd (amount_chunk A B c k r) (hpay.trans (Entails.of_eq (payload_chunk A B c k r).symm)))
  isplitr; · iapply (inv_chunk A B K c k r); iexact HI
  isplitl [Hs]; · iexact Hs
  isplitl [Hd]; · iexact Hd
  isplitl [Ht]; · iexact Ht
  iapply (reached_chunk A B K c k r); iexact HI

/-- A transfer to device `d`, paying the round of the own cell `k` and of `d`'s cell `k'`. -/
theorem step_send (d n : Dev nD) (hn : n = d) (k k' : Fin 6) {s s' : DmaSem sig} (hs : own k r = s) (hs' : own k' r = s') {sp sp' : Space} {sh : Shape} {e : EltTy}
    {src : Memref sig .tc sp sh e} {dst : Memref sig .tc sp' sh e} (hd : dst.view.dmaCredit = amt k.val) (hkk : amt k.val = amt k'.val)
    {h0 : dst.view.ref.isScScratch = false} {h1 : src.view.WordExact} {h2 : dst.view.WordExact}
    {h3 : DmaTarget.Typed sp (.dma s') (.remote (Dev.tc n) dst (.dma s) h0 : DmaTarget nD τ sig .tc sp' sh e)}
    {α : Type} {Q : α → sProp 𝕄} {p : PUnit → Prog (TEff F) α} {q : PosShare TreeShare}
    (fs : Buf (Elt F) (src.view.loc (c : Thread nD τ))) (fd : Buf (Elt F) (dst.view.loc (d : Thread nD τ)))
    (O₁ O : CellTallies nD τ sig Unit) (hO : O₁ = O + tallyAt (chunkCell d k' r) () (amt k.val))
    (hpay : iprop(src.view.loc (c : Thread nD τ) ↦[src.view.set]{q} fs) ⊢ pay A B c k.val r)
    (hpay' : iprop(dst.view.loc (d : Thread nD τ) ↦[dst.view.set]{fullShare} dst.view.write (Elt F) fd (src.view.read (Elt F) fs) Finset.univ) ⊢ pay A B d k'.val r) :
    iprop(know A B K ∗ (src.view.loc (c : Thread nD τ) ↦[src.view.set]{q} fs) ∗ (dst.view.loc (d : Thread nD τ) ↦[dst.view.set]{fullShare} fd)
        ∗ owing c O₁ ∗ tok c k r ∗ tok d k' r)
      ⊢ iprop(((crd c k r ∗ owing c O) -∗ run c (p ⟨⟩) Q)
          -∗ run c (.op (.enqueueDma src (.remote (Dev.tc n) dst (.dma s) h0) (.dma s') h1 h2 h3) p) Q) := by
  subst hs hs' hn
  iintro ⟨#HI, Hs, Hd, ⟨%W, HO⟩, Ht, Ht'⟩ Hk
  iapply (Rounds.wp_send_pointsTo 𝒱₀ ER (Rd A B) (c : Thread nD τ) none (κ₁ := K (c, ic k r)) (κ₂ := K (n, ic k' r)) (r₁ := 0) (r₂ := 0) (d₁ := false) (d₂ := false) (fd := fd)
      (mem_dma A B c (own k r)) (mem_dma A B n (own k' r)) () () (amt k.val) hd (amount_chunk A B c k r) ((amount_chunk A B n k' r).trans hkk.symm)
      O hO (W := W) (hpay.trans (Entails.of_eq (payload_chunk A B c k r).symm)) (hpay'.trans (Entails.of_eq (payload_chunk A B n k' r).symm))) $$ [Hs Hd HO Ht Ht']
  · isplitr; · iapply (inv_chunk A B K c k r); iexact HI
    isplitr; · iapply (inv_chunk A B K n k' r); iexact HI
    isplitl [Hs]; · iexact Hs
    isplitl [Hd]; · iexact Hd
    isplitl [HO]; · iexact HO
    isplitl [Ht]; · iexact Ht
    isplitr; · iapply (reached_chunk A B K c k r); iexact HI
    isplitl [Ht']; · iexact Ht'
    iapply (reached_chunk A B K n k' r); iexact HI
  iintro ⟨Hc, HO⟩
  iapply Hk
  isplitl [Hc]; · iexact Hc
  iexists _; iexact HO

end Transfers

/-! ## The passes -/

theorem run_startA : iprop(know A B K ∗ inStartA A c r ∗ emp)
    ⊢ run c (startA (F := F) c r) (fun v => iprop(⌜v = (⟨⟩ : PUnit)⌝ ∗ crd c 0 r ∗ emp)) := by
  unfold inStartA startA
  simp only [Prog.lift]
  iintro ⟨#HI, ⟨HA, ⟨%f, HV⟩, Ht⟩, -⟩
  iapply (step_copy A B K c r 0 (s := inS r.castSucc) rfl (src := srcA c r) (dst := stA r) rfl (q := fullShare) (A c) f (sep_mono_left (Entails.of_eq (land_V A c r f)))) $$ [HA HV Ht]
  · isplitr; · iexact HI
    isplitl [HA]; · unfold hA; iexact HA
    isplitl [HV]; · unfold hV; iexact HV
    iexact Ht
  iintro Hc
  iapply (le_wp_ret _ _ _ _)
  isplitr; · ipureintro; trivial
  isplitl; · iexact Hc
  iempintro

/-- A load or a store of a chunk stays in the elements held. -/
theorem access_A : (vA.access (rectA r)).set ⊆ (stA r).view.set := subset_rfl
theorem access_S : (vS.access (rectS r)).set ⊆ (slS r).view.set := by rw [slS_set]; exact (View.set_slice_whole _ _).subset
theorem access_R : (vR.access (rectS r)).set ⊆ (slR r).view.set := by rw [slR_set]; exact (View.set_slice_whole _ _).subset
theorem access_D : (vD.access (rectD r)).set ⊆ (slD r).view.set := subset_rfl

theorem loaded_A : (vA.access (rectA r)).read (Elt F) (aBuf A c) = aChunk A c r := read_stA (aChunk A c) r

theorem run_sendX : iprop(know A B K ∗ inSendX c r ∗ owing c (oX c r.val + oY c 0))
    ⊢ run c (sendX (F := F) c (k0_pay1 (B c)) r) (fun v => iprop(⌜v = part A B c r⌝ ∗ outSendX A c r ∗ owing c (oX c (r.val + 1) + oY c 0))) := by
  unfold inSendX sendX
  simp only [Prog.lift, Prog.bind_op, Prog.bind_ret, Prog.pure_eq_ret]
  iintro ⟨#HI, ⟨Hc, Hat, ⟨%f, HS⟩, ⟨%g, HR⟩, Ht, Ht'⟩, HO⟩
  iapply (step_wait A B K c 0 r (s := inS r.castSucc) rfl (src := srcA c r) (dst := stA r) rfl (oX c r.val + oY c 0) (P := iprop(hV c r (aBuf A c) ∗ hA c r (A c))) rfl) $$ [Hc Hat HO]
  · isplitr; · iexact HI
    isplitl [Hc]; · iexact Hc
    isplitl [HO]; · iexact HO
    isplitr
    · iapply (mayWait_low c (.dma (own 0 r)) ((lv_chunk c 0 r ()).trans_le (by decide)) r.val 0); iapply (know_lev A B K); iexact HI
    iexact Hat
  iintro ⟨HO, Hz, HV, HA⟩
  unfold hV
  iapply (wp_load_rect 𝒱₀ (c : Thread nD τ) none Set.univ (m := vA) (access_A r)) $$ HV
  iintro HV
  rw [loaded_A]
  unfold hS
  iapply (wp_load_rect 𝒱₀ (c : Thread nD τ) none Set.univ (m := vS) (access_S r)) $$ HS
  iintro HS
  iapply (wp_store 𝒱₀ (c : Thread nD τ) none Set.univ (m := vS) (r := rectS r) (Mk := Finset.univ) (access_S r)) $$ HS
  iintro HS
  ihave HS := (Entails.of_eq (stored_S A B c r f)) $$ [HS]
  · unfold hS; iexact HS
  iapply (step_send A B K c r (px c) _ (dev3_eq c) 1 2 (s := xsS r) (s' := xrS r) rfl rfl (src := slS r) (dst := slR r) rfl rfl (q := fullShare) (sBuf A B c) g (oX c r.val + oY c 0) (oX c (r.val + 1) + oY c 0)
      (by rw [oX_peel c r, add_right_comm]; rfl) .rfl (Entails.of_eq (land_R A B c r g))) $$ [HS HR HO Ht Ht']
  · isplitr; · iexact HI
    isplitl [HS]; · unfold hS; iexact HS
    isplitl [HR]; · unfold hR; iexact HR
    isplitl [HO]; · iexact HO
    isplitl [Ht] <;> iassumption
  iintro ⟨Hc, HO⟩
  iapply (le_wp_ret _ _ _ _)
  isplitr; · ipureintro; rfl
  unfold outSendX hV
  isplitr [HO]
  · isplitl [HA]; · iexact HA
    isplitl [HV]; · iexact HV
    isplitl [Hz] <;> iassumption
  iexact HO

theorem run_sendY : iprop(know A B K ∗ inSendY c r ∗ owing c (oY c r.val))
    ⊢ run c (sendY (F := F) c (part A B c r) r) (fun v => iprop(⌜v = (⟨⟩ : PUnit)⌝ ∗ outSendY A B c r ∗ owing c (oY c (r.val + 1)))) := by
  unfold inSendY sendY
  simp only [Prog.lift, Prog.bind_op, Prog.bind_ret, Prog.pure_eq_ret]
  iintro ⟨#HI, ⟨Hc, Hat, ⟨%f, HD⟩, ⟨%g, HO1⟩, ⟨%g', HO2⟩, Ht5, Ht3, Ht4⟩, HO⟩
  iapply (step_wait A B K c 2 r (s := xrS r) rfl (src := slS r) (dst := slR r) rfl (oY c r.val) (P := hR c r (rBuf A B c)) rfl) $$ [Hc Hat HO]
  · isplitr; · iexact HI
    isplitl [Hc]; · iexact Hc
    isplitl [HO]; · iexact HO
    isplitr
    · iapply (mayWait_x c r r.val); iapply (know_lev A B K); iexact HI
    iexact Hat
  iintro ⟨HO, Hz, HR⟩
  unfold hR
  iapply (wp_load_rect 𝒱₀ (c : Thread nD τ) none Set.univ (m := vR) (access_R r)) $$ HR
  iintro HR
  unfold hD
  iapply (wp_load_rect 𝒱₀ (c : Thread nD τ) none Set.univ (m := vD) (access_D r)) $$ HD
  iintro HD
  iapply (wp_store 𝒱₀ (c : Thread nD τ) none Set.univ (m := vD) (r := rectD r) (Mk := Finset.univ) (access_D r)) $$ HD
  iintro HD
  ihave HD := (Entails.of_eq (stored_D A B c r f)) $$ [HD]
  · unfold hD; iexact HD
  ihave HD := (split_D c r (dBuf A B c)).1 $$ HD
  icases HD with ⟨HDl, HDr⟩
  iapply (step_copy A B K c r 5 (s := locS r) rfl (src := slD r) (dst := ownO c r) rfl (q := fullShare.left) (dBuf A B c) g (sep_mono_left (Entails.of_eq (land_O A B c r c (.inl rfl) g)))) $$ [HDl HO1 Ht5]
  · isplitr; · iexact HI
    isplitl [HDl]; · unfold hD; iexact HDl
    isplitl [HO1]; · unfold hO; iexact HO1
    iexact Ht5
  iintro Hc5
  iapply (step_send A B K c r (py c) _ (dev11_eq c) 3 4 (s := ysS r) (s' := yrS r) rfl rfl (src := slD r) (dst := ownO c r) rfl rfl (q := fullShare.right) (dBuf A B c) g' (oY c r.val) (oY c (r.val + 1))
      (oY_peel c r) .rfl (Entails.of_eq (show _ = hO (py c) r (py (py c)) (oBuf A B (py c)) by
        rw [py_py]; exact land_O A B c r (py c) (.inr (py_py c).symm) g'))) $$ [HDr HO2 HO Ht3 Ht4]
  · isplitr; · iexact HI
    isplitl [HDr]; · unfold hD; iexact HDr
    isplitl [HO2]; · unfold hO; iexact HO2
    isplitl [HO]; · iexact HO
    isplitl [Ht3] <;> iassumption
  iintro ⟨Hc3, HO⟩
  iapply (le_wp_ret _ _ _ _)
  isplitr; · ipureintro; trivial
  unfold outSendY hR
  isplitr [HO]
  · isplitl [HR]; · iexact HR
    isplitl [Hz]; · iexact Hz
    isplitl [Hc5] <;> iassumption
  iexact HO

theorem run_waitY : iprop(know A B K ∗ inWaitY c r ∗ owing c 0)
    ⊢ run c (waitY (F := F) c r) (fun v => iprop(⌜v = (⟨⟩ : PUnit)⌝ ∗ outWaitY A B c r ∗ owing c 0)) := by
  unfold inWaitY waitY
  simp only [Prog.lift]
  iintro ⟨#HI, ⟨Hc, Hat⟩, HO⟩
  iapply (step_wait A B K c 4 r (s := yrS r) rfl (src := slD r) (dst := othO c r) rfl 0 (P := hO c r (py c) (oBuf A B c)) rfl) $$ [Hc Hat HO]
  · isplitr; · iexact HI
    isplitl [Hc]; · iexact Hc
    isplitl [HO]; · iexact HO
    isplitr; · rw [MayWait_zero]; iempintro
    iexact Hat
  iintro ⟨HO, Hz, HR⟩
  iapply (le_wp_ret _ _ _ _)
  isplitr; · ipureintro; trivial
  unfold outWaitY
  isplitr [HO]
  · isplitl [HR]; · iexact HR
    iexact Hz
  iexact HO

theorem run_waitOwn : iprop(know A B K ∗ inWaitOwn c r ∗ owing c 0)
    ⊢ run c (waitOwn (F := F) c r) (fun v => iprop(⌜v = (⟨⟩ : PUnit)⌝ ∗ outWaitOwn A B c r ∗ owing c 0)) := by
  unfold inWaitOwn waitOwn
  simp only [Prog.lift, Prog.bind_op, Prog.bind_ret, Prog.pure_eq_ret]
  iintro ⟨#HI, ⟨⟨Hc5, Hc3, Hc1⟩, Hp5, Hp3, Hp1⟩, HO⟩
  iapply (step_wait A B K c 5 r (s := locS r) rfl (src := slD r) (dst := ownO c r) rfl 0 (P := iprop(hO c r c (oBuf A B c) ∗ hD c r fullShare.left (dBuf A B c))) rfl) $$ [Hc5 Hp5 HO]
  · isplitr; · iexact HI
    isplitl [Hc5]; · iexact Hc5
    isplitl [HO]; · iexact HO
    isplitr; · rw [MayWait_zero]; iempintro
    iexact Hp5
  iintro ⟨HO, Hz5, HO1, HDl⟩
  iapply (step_wait A B K c 3 r (s := ysS r) rfl (src := ownO c r) (dst := slD r) rfl 0 (P := hD c r fullShare.right (dBuf A B c)) rfl) $$ [Hc3 Hp3 HO]
  · isplitr; · iexact HI
    isplitl [Hc3]; · iexact Hc3
    isplitl [HO]; · iexact HO
    isplitr; · rw [MayWait_zero]; iempintro
    iexact Hp3
  iintro ⟨HO, Hz3, HDr⟩
  iapply (step_wait A B K c 1 r (s := xsS r) rfl (src := slR r) (dst := slS r) rfl 0 (P := hS c r (sBuf A B c)) rfl) $$ [Hc1 Hp1 HO]
  · isplitr; · iexact HI
    isplitl [Hc1]; · iexact Hc1
    isplitl [HO]; · iexact HO
    isplitr; · rw [MayWait_zero]; iempintro
    iexact Hp1
  iintro ⟨HO, Hz1, HS⟩
  iapply (le_wp_ret _ _ _ _)
  isplitr; · ipureintro; trivial
  unfold outWaitOwn
  isplitr [HO]
  · isplitl [HO1]; · iexact HO1
    isplitl [HDl HDr]
    · iapply (split_D c r (dBuf A B c)).2
      isplitl [HDl]; · iexact HDl
      iexact HDr
    isplitl [HS]; · iexact HS
    isplitl [Hz5]; · iexact Hz5
    isplitl [Hz3] <;> iassumption
  iexact HO

end Cert.KernelIdeal.Mm

end
-- ==== Proof.Body.lean ====
/- One device's run: the passes one after the other. -/
module

public import proofs.«01_k».proof.Proof.Passes

@[expose] public section

set_option maxRecDepth 65536

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (A : Dev nD → Vec F S768x384 .f32) (B : Dev nD → Vec F S384x768 .f32) (K : Dev nD × CS → ℕ) (c : Dev nD)

/-! ## The block of `B` -/

omit [FloatOps F] in
theorem hB_eq (f : Buf (Elt F) ((c : Thread nD τ).loc main_arg1)) :
    hB c f = (mB.view.loc (c : Thread nD τ) ↦[mB.view.set]{fullShare} f : sProp 𝕄) := by
  unfold hB; rw [show mB.view.set = Finset.univ from View.set_whole _]
omit [FloatOps F] in
theorem hW_eq (f : Buf (Elt F) ((c : Thread nD τ).loc cc0_scratch1)) :
    hW c f = (vB.view.loc (c : Thread nD τ) ↦[vB.view.set]{fullShare} f : sProp 𝕄) := by
  unfold hW; rw [show vB.view.set = Finset.univ from View.set_whole _]

theorem run_startB : iprop(know A B K ∗ hB c (B c) ∗ (∃ f, hW c f) ∗ dutyTok ER (loadCell c) 0 false)
    ⊢ run c (startB (F := F)) (fun _ => cred (tallyAt (loadCell c) () NB)) := by
  unfold startB
  simp only [Prog.lift]
  iintro ⟨#HI, HB, ⟨%f, HW⟩, Ht⟩
  ihave HB := (Entails.of_eq (hB_eq c (B c))) $$ HB
  ihave HW := (Entails.of_eq (hW_eq c f)) $$ HW
  iapply (Rounds.wp_copy_pointsTo 𝒱₀ ER (Rd A B) (c : Thread nD τ) none (κ := K (c, il)) (src := mB) (dst := vB) (q := fullShare) (fs := B c) (fd := f)
      (mem_dma A B c (inS 8)) () NB rfl (amount_load A B c) (by
        rw [← hW_eq c, ← hB_eq c, land_W B c f]
        exact Entails.of_eq (payload_load A B c).symm)) $$ [HB HW Ht]
  · isplitr; · iapply (inv_load A B K c); iexact HI
    isplitl [HB]; · iexact HB
    isplitl [HW]; · iexact HW
    isplitl [Ht]; · iexact Ht
    iapply (reached_load A B K c); iexact HI
  iintro Hc
  iapply (le_wp_ret _ _ _ _)
  iexact Hc

theorem off_zero : (![0, 0] : Fin 2 → ℕ) = fun _ => 0 := by funext i; fin_cases i <;> rfl

theorem run_takeB (O : CellTallies nD τ sig Unit) (hO : (levAts L lv : sProp 𝕄) ⊢ MayWait (c : Thread nD τ) (.dma (inS 8)) () O) :
    iprop(know A B K ∗ cred (tallyAt (loadCell c) () NB) ∗ atPos ER (loadCell c) 0 ∅ 0 ∗ owing c O)
    ⊢ run c (takeB (F := F)) (fun b => iprop(⌜b = k0_pay1 (B c)⌝ ∗ hW c (B c) ∗ hB c (B c) ∗ semVal (loadCell c) 0 ∗ owing c O)) := by
  unfold takeB
  simp only [Prog.lift, Prog.bind_op, Prog.bind_ret, Prog.pure_eq_ret]
  iintro ⟨#HI, Hc, Hat, ⟨%W, HO⟩⟩
  iapply (Rounds.wp_wait_rest_token 𝒱₀ ER (Rd A B) (c : Thread nD τ) none (κ := K (c, il))
      (wpE_waitDma2_eq 𝒱₀ (c : Thread nD τ) none Set.univ) (Set.mem_univ _) () (O := O) (W := W) (R := 0) (m := 0) (T := ∅)
      (by rw [Nat.zero_add]; exact (expect_load A B c).symm)) $$ [Hc HO Hat]
  · isplitr; · iapply (inv_load A B K c); iexact HI
    isplitl [Hc]; · iexact Hc
    isplitl [HO]; · iexact HO
    isplitr; · iapply hO; iapply (know_lev A B K); iexact HI
    iexact Hat
  iintro ⟨HO, Hat, -, Hp⟩
  ihave Hp := (Entails.of_eq (rest_load A B c)) $$ Hp
  icases Hp with ⟨HW, HB⟩
  imod (Rounds.cell_close ER (Rd A B) (Set.mem_univ (K (c, il))) (fun h => h) (R := 0 + 1) (duties_later A B (loadCell c))) $$ [Hat] with Hz
  · isplitr; · iapply (inv_load A B K c); iexact HI
    iexact Hat
  unfold hW
  iapply (wp_load 𝒱₀ (c : Thread nD τ) none Set.univ (m := vB) (Finset.subset_univ _)) $$ HW
  iintro HW
  rw [show (vB.view.readAt (Elt F) (Rect.unit (s := S384x768) ![0, 0] S384x768.size inb_S384x768_S384x768_0_0).toLoadRect (B c) : Vec F S384x768 .f32) = B c
    from Memref.readAt_unit_zero (Elt F) cc0_scratch1 off_zero _ (B c)]
  iapply (le_wp_ret _ _ _ _)
  isplitr; · ipureintro; rfl
  isplitl [HW]; · iexact HW
  isplitl [HB]; · iexact HB
  isplitl [Hz]; · iexact Hz
  iexists _; iexact HO

theorem lv_load : lv ((c : Thread nD τ), .dma (inS 8)) () ≤ 1 := by
  show (if kindOf (inS 8) = 2 then 2 else if kindOf (inS 8) = 4 then 3 else 0) ≤ 1
  rw [kindOf_load]; decide

/-! ## The barrier -/

/-- What a device brings to the barrier: what it lends its neighbours, the rights to tell them, to wait. -/
def inBar : sProp 𝕄 :=
  iprop((bigSep Finset.univ fun r => iprop(∃ f, hR c r f)) ∗ (bigSep Finset.univ fun r => iprop(∃ f, hO c r (py c) f))
    ∗ dutyTok ER (barCell (px c)) 0 false ∗ dutyTok ER (barCell (py c)) 0 true ∗ cred (tallyAt (barCell c) () 2) ∗ atPos ER (barCell c) 0 ∅ 0)
/-- What it has after it: what its neighbours lend. -/
def outBar : sProp 𝕄 :=
  iprop((bigSep Finset.univ fun r => iprop(∃ f, hR (px c) r f)) ∗ (bigSep Finset.univ fun r => iprop(∃ f, hO (py c) r c f)) ∗ semVal (barCell c) 0)

theorem run_handshake : iprop(know A B K ∗ inBar c ∗ owing c (O₀ c))
    ⊢ run c (handshake (F := F) c) (fun _ => iprop(outBar c ∗ owing c (oX c 0 + oY c 0))) := by
  unfold inBar handshake
  simp only [semSignalWord, semWaitWord, Prog.lift, Prog.bind_op, Prog.bind_ret, Prog.pure_eq_ret]
  rw [show (⟨k0_dev1 c, k0_dev1_lt c⟩ : Dev nD) = px c from rfl, show (⟨k0_dev2 c, k0_dev2_lt c⟩ : Dev nD) = py c from rfl]
  iintro ⟨#HI, ⟨HR, HO1, Htx, Hty, Hc, Hat⟩, ⟨%W, HO⟩⟩
  iapply (Rounds.wp_signal 𝒱₀ ER (Rd A B) (c : Thread nD τ) none (dst := (px c : Thread nD τ)) (κ := K (px c, ib))
      (mem_bar A B (px c) false) ((amount_bar A B (px c) false).trans (by decide)) () (oX c 0 + oY c 0 + tallyAt (barCell (py c)) () 1) rfl) $$ [HO Htx HR]
  · isplitr; · iapply (inv_bar A B K (px c)); iexact HI
    isplitl [HO]; · iexact HO
    isplitl [Htx]; · iexact Htx
    isplitl [HR]
    · rw [payload_bar]; unfold barPay; rw [if_neg (by decide), px_px]; iexact HR
    iapply (reached_bar A B K (px c)); iexact HI
  iintro HO
  iapply (Rounds.wp_signal 𝒱₀ ER (Rd A B) (c : Thread nD τ) none (dst := (py c : Thread nD τ)) (κ := K (py c, ib))
      (mem_bar A B (py c) true) ((amount_bar A B (py c) true).trans (by decide)) () (oX c 0 + oY c 0) rfl) $$ [HO Hty HO1]
  · isplitr; · iapply (inv_bar A B K (py c)); iexact HI
    isplitl [HO]; · iexact HO
    isplitl [Hty]; · iexact Hty
    isplitl [HO1]
    · rw [payload_bar]; unfold barPay; rw [if_pos rfl, py_py]; iexact HO1
    iapply (reached_bar A B K (py c)); iexact HI
  iintro HO
  iapply (Rounds.wp_wait_rest_token 𝒱₀ ER (Rd A B) (c : Thread nD τ) none (κ := K (c, ib))
      (wpE_semWait_eq 𝒱₀ (c : Thread nD τ) none Set.univ) (Set.mem_univ _) () (O := oX c 0 + oY c 0) (W := W) (R := 0) (m := 0) (T := ∅)
      (by rw [expect_bar]; decide)) $$ [Hc HO Hat]
  · isplitr; · iapply (inv_bar A B K c); iexact HI
    isplitl [Hc]; · iexact Hc
    isplitl [HO]; · iexact HO
    isplitr; · iapply (mayWait_low c (.reg barS) (le_refl 1) 0 0); iapply (know_lev A B K); iexact HI
    iexact Hat
  iintro ⟨HO, Hat, -, Hp⟩
  ihave Hp := (Entails.of_eq (rest_bar A B c)) $$ Hp
  icases Hp with ⟨HR, HO1⟩
  imod (Rounds.cell_close ER (Rd A B) (Set.mem_univ (K (c, ib))) (fun h => h) (R := 0 + 1) (duties_later A B (barCell c))) $$ [Hat] with Hz
  · isplitr; · iapply (inv_bar A B K c); iexact HI
    iexact Hat
  iapply (le_wp_ret _ _ _ _)
  unfold outBar
  isplitr [HO]
  · isplitl [HR]; · iexact HR
    isplitl [HO1] <;> iassumption
  iexists _; iexact HO

/-! ## The whole run -/

section Whole

/-- A chunk's share in the second pass, in the third, in the last, apart from what the passes before hand on. -/
def ownX (r : Fin 8) : sProp 𝕄 := iprop(pos c 0 r ∗ (∃ f, hS c r f) ∗ tok c 1 r ∗ tok (px c) 2 r)
def ownY (r : Fin 8) : sProp 𝕄 :=
  iprop(crd c 2 r ∗ pos c 2 r ∗ (∃ f, hD c r fullShare f) ∗ (∃ f, hO c r c f) ∗ tok c 5 r ∗ tok c 3 r ∗ tok (py c) 4 r)
def ownEnd (r : Fin 8) : sProp 𝕄 := iprop(pos c 5 r ∗ pos c 3 r ∗ pos c 1 r)

/-- What a device starts with; what it ends with. -/
def inAll : sProp 𝕄 :=
  iprop((hB c (B c) ∗ (∃ f, hW c f) ∗ dutyTok ER (loadCell c) 0 false ∗ atPos ER (loadCell c) 0 ∅ 0)
    ∗ bigSep Finset.univ (inStartA A c) ∗ inBar c ∗ bigSep Finset.univ (ownX (F := F) c) ∗ bigSep Finset.univ (ownY (F := F) c)
    ∗ bigSep Finset.univ (inWaitY (F := F) c) ∗ bigSep Finset.univ (ownEnd (F := F) c))

/-- What a chunk leaves. -/
def outChunk (r : Fin 8) : sProp 𝕄 :=
  iprop((hA c r (A c) ∗ hV c r (aBuf A c) ∗ nul c 0 r) ∗ (hR c r (rBuf A B c) ∗ nul c 2 r) ∗ outWaitY A B c r ∗ outWaitOwn A B c r)
def outAll : sProp 𝕄 :=
  iprop((hW c (B c) ∗ hB c (B c) ∗ semVal (loadCell c) 0) ∗ semVal (barCell c) 0 ∗ bigSep Finset.univ (outChunk A B c))

/-- A program before another. -/
theorem run_bind {α β : Type} {p : Prog (TEff F) α} {k : α → Prog (TEff F) β} {X : sProp 𝕄} {Y : α → sProp 𝕄} {Q : β → sProp 𝕄}
    (h : X ⊢ run c p Y) : X ⊢ iprop((∀ v, Y v -∗ run c (k v) Q) -∗ run c (p >>= k) Q) := by
  iintro H Hk
  ihave H := h $$ H
  unfold run at *
  rw [wp_bind]
  iapply (wp_wand _ _ _) $$ H
  iexact Hk

omit [FloatOps F] in
theorem join_sendX : iprop(bigSep Finset.univ (fun r : Fin 8 => crd (F := F) c 0 r) ∗ (bigSep Finset.univ fun r : Fin 8 => iprop(∃ f, hR (F := F) (px c) r f))
      ∗ bigSep Finset.univ (ownX (F := F) c)) ⊢ bigSep Finset.univ (inSendX (F := F) c) := by
  rw [← bigSep_sep', ← bigSep_sep']
  refine bigSep_mono fun r _ => ?_
  unfold ownX inSendX
  show (_ : sProp 𝕄) ⊢ _
  iintro ⟨Hc, HR, Hp, HS, H1, H2⟩
  isplitl [Hc]; · iexact Hc
  isplitl [Hp]; · iexact Hp
  isplitl [HS]; · iexact HS
  isplitl [HR]; · iexact HR
  isplitl [H1] <;> iassumption

omit [FloatOps F] in
theorem join_sendY : iprop((bigSep Finset.univ fun r : Fin 8 => iprop(∃ f, hO (F := F) (py c) r c f)) ∗ bigSep Finset.univ (ownY (F := F) c))
      ⊢ bigSep Finset.univ (inSendY (F := F) c) := by
  rw [← bigSep_sep']
  refine bigSep_mono fun r _ => ?_
  unfold ownY inSendY
  show (_ : sProp 𝕄) ⊢ _
  iintro ⟨HO, Hc, Hp, HD, H1, H⟩
  isplitl [Hc]; · iexact Hc
  isplitl [Hp]; · iexact Hp
  isplitl [HD]; · iexact HD
  isplitl [H1]; · iexact H1
  isplitl [HO]; · iexact HO
  iexact H

theorem split_out (f g : Fin 8 → sProp 𝕄) (h : ∀ r, f r ⊢ iprop(g r ∗ crd (F := F) c 1 r)) :
    bigSep Finset.univ f ⊢ iprop(bigSep Finset.univ g ∗ bigSep Finset.univ fun r : Fin 8 => crd (F := F) c 1 r) := by
  rw [← bigSep_sep']; exact bigSep_mono fun r _ => h r

theorem join_end : iprop((bigSep Finset.univ (outSendX A c)) ∗ (bigSep Finset.univ (outSendY A B c)) ∗ bigSep Finset.univ (ownEnd (F := F) c))
      ⊢ iprop(bigSep Finset.univ (fun r : Fin 8 => iprop((hA c r (A c) ∗ hV c r (aBuf A c) ∗ nul c 0 r) ∗ (hR c r (rBuf A B c) ∗ nul c 2 r)))
          ∗ bigSep Finset.univ (inWaitOwn (F := F) c)) := by
  rw [← bigSep_sep', ← bigSep_sep', ← bigSep_sep']
  refine bigSep_mono fun r _ => ?_
  unfold outSendX outSendY ownEnd inWaitOwn
  show (_ : sProp 𝕄) ⊢ _
  iintro ⟨⟨HA, HV, Hz, Hc1⟩, ⟨HR, Hz2, Hc5, Hc3⟩, Hp⟩
  isplitr [Hc1 Hc5 Hc3 Hp]
  · isplitl [HA HV Hz]
    · isplitl [HA]; · iexact HA
      isplitl [HV] <;> iassumption
    isplitl [HR] <;> iassumption
  isplitr [Hp]
  · isplitl [Hc5]; · iexact Hc5
    isplitl [Hc3] <;> iassumption
  iexact Hp

theorem join_out : iprop(bigSep Finset.univ (fun r : Fin 8 => iprop((hA c r (A c) ∗ hV c r (aBuf A c) ∗ nul c 0 r) ∗ (hR c r (rBuf A B c) ∗ nul c 2 r)))
      ∗ bigSep Finset.univ (outWaitY A B c) ∗ bigSep Finset.univ (outWaitOwn A B c)) ⊢ bigSep Finset.univ (outChunk A B c) := by
  rw [← bigSep_sep', ← bigSep_sep']
  refine bigSep_mono fun r _ => ?_
  unfold outChunk
  show (_ : sProp 𝕄) ⊢ _
  iintro ⟨⟨H1, H2⟩, H⟩
  isplitl [H1]; · iexact H1
  isplitl [H2] <;> iassumption

theorem run_passes : iprop(know A B K ∗ inAll A B c ∗ owing c (O₀ c))
    ⊢ run c (passes (F := F)) (fun _ => iprop(outAll A B c ∗ owing c 0)) := by
  unfold inAll passes
  simp only [Prog.lift, Prog.bind_op, Prog.bind_ret, Prog.pure_eq_ret, run, wp_deviceId]
  iintro ⟨#HI, ⟨⟨HB, HW, Ht, Hpl⟩, HA, Hbar, HX, HY, HwY, Hend⟩, HO⟩
  iapply (run_bind c (run_startB A B K c)) $$ [HB HW Ht]
  · isplitr; · iexact HI
    isplitl [HB]; · iexact HB
    isplitl [HW] <;> iassumption
  iintro %_ Hcl
  iapply (run_bind c (run_pass c (startA (F := F) c) (know A B K) (inStartA A c) (fun r => crd c 0 r) (fun _ => iprop(emp)) (fun _ => ⟨⟩) (run_startA A B K c))) $$ [HA]
  · isplitr; · iexact HI
    isplitl; · iexact HA
    iempintro
  iintro %_ ⟨-, Hc0, -⟩
  iapply (run_bind c (run_handshake A B K c)) $$ [Hbar HO]
  · isplitr; · iexact HI
    isplitl [Hbar] <;> iassumption
  unfold outBar
  iintro %_ ⟨⟨HR, HO1, Hzb⟩, HO⟩
  iapply (run_bind c (run_takeB A B K c (oX c 0 + oY c 0) (mayWait_low c (.dma (inS 8)) (lv_load c) 0 0))) $$ [Hcl Hpl HO]
  · isplitr; · iexact HI
    isplitl [Hcl]; · iexact Hcl
    isplitl [Hpl] <;> iassumption
  iintro %b ⟨%hb, HW, HB, Hzl, HO⟩
  subst hb
  iapply (run_bind c (run_pass c (sendX (F := F) c (k0_pay1 (B c))) (know A B K) (inSendX (F := F) c) (outSendX A c) (fun n => owing c (oX c n + oY c 0)) (part A B c) (run_sendX A B K c))) $$ [Hc0 HR HX HO]
  · isplitr; · iexact HI
    isplitr [HO]
    · iapply (join_sendX c)
      isplitl [Hc0]; · iexact Hc0
      isplitl [HR] <;> iassumption
    iexact HO
  iintro %p ⟨%hp, HX, HO⟩
  subst hp
  rw [oX_done, zero_add]
  iapply (run_bind c (run_pass c (fun r => sendY (F := F) c (part A B c r) r) (know A B K) (inSendY (F := F) c) (outSendY A B c) (fun n => owing c (oY c n)) (fun _ => ⟨⟩) (run_sendY A B K c))) $$ [HO1 HY HO]
  · isplitr; · iexact HI
    isplitr [HO]
    · iapply (join_sendY c)
      isplitl [HO1] <;> iassumption
    iexact HO
  iintro %_ ⟨-, HY, HO⟩
  rw [oY_done]
  ihave H := (join_end A B c) $$ [HX HY Hend]
  · isplitl [HX]; · iexact HX
    isplitl [HY] <;> iassumption
  icases H with ⟨Hdone, Hend⟩
  iapply (run_bind c (run_pass c (waitY (F := F) c) (know A B K) (inWaitY (F := F) c) (outWaitY A B c) (fun _ => owing c 0) (fun _ => ⟨⟩) (run_waitY A B K c))) $$ [HwY HO]
  · isplitr; · iexact HI
    isplitl [HwY] <;> iassumption
  iintro %_ ⟨-, HwY, HO⟩
  iapply (run_bind c (run_pass c (waitOwn (F := F) c) (know A B K) (inWaitOwn (F := F) c) (outWaitOwn A B c) (fun _ => owing c 0) (fun _ => ⟨⟩) (run_waitOwn A B K c))) $$ [Hend HO]
  · isplitr; · iexact HI
    isplitl [Hend] <;> iassumption
  iintro %_ ⟨-, Hown, HO⟩
  iapply (le_wp_ret _ _ _ _)
  unfold outAll
  isplitr [HO]
  · isplitl [HW HB Hzl]
    · isplitl [HW]; · iexact HW
      isplitl [HB] <;> iassumption
    isplitl [Hzb]; · iexact Hzb
    iapply (join_out A B c)
    isplitl [Hdone]; · iexact Hdone
    isplitl [HwY] <;> iassumption
  iexact HO

end Whole

end Cert.KernelIdeal.Mm

end
-- ==== Proof.Split.lean ====
/- Buffers held whole, and held chunk by chunk. -/
module

public import proofs.«01_k».proof.Proof.Body

@[expose] public section

set_option maxRecDepth 65536

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (c : Dev nD)

/-! ## The buffers a device uses whole -/

/-- Each chunk's elements of a buffer. -/
def stA_at (r : Fin 8) : Finset S384x384.Idx := (stA r).view.set
def slD_at (r : Fin 8) : Finset S384x768.Idx := (slD r).view.set
def slS_at (r : Fin 8) : Finset S8x48x768.Idx := (slS r).view.set
def slR_at (r : Fin 8) : Finset S8x48x768.Idx := (slR r).view.set

theorem stA_disjoint (r r' : Fin 8) (hr : r ≠ r') : Disjoint (stA r).view.set (stA r').view.set :=
  Finset.disjoint_left.mpr fun i h h' => by
    have := mem_stA.mp h; have := mem_stA.mp h'
    exact hr (Fin.ext (by omega))
theorem stA_cover : Finset.univ.biUnion stA_at = Finset.univ :=
  Finset.eq_univ_iff_forall.mpr fun i => by
    have hi : (i 0).val < 384 := (i 0).isLt
    exact Finset.mem_biUnion.mpr ⟨⟨(i 0).val / 48, by omega⟩, Finset.mem_univ _,
      by unfold stA_at; exact mem_stA.mpr ⟨by dsimp only; omega, by dsimp only; omega⟩⟩
theorem slD_disjoint (r r' : Fin 8) (hr : r ≠ r') : Disjoint (slD r).view.set (slD r').view.set :=
  Finset.disjoint_left.mpr fun i h h' => by
    have := mem_slD.mp h; have := mem_slD.mp h'
    exact hr (Fin.ext (by omega))
theorem slD_cover : Finset.univ.biUnion slD_at = Finset.univ :=
  Finset.eq_univ_iff_forall.mpr fun i => by
    have hi : (i 0).val < 384 := (i 0).isLt
    exact Finset.mem_biUnion.mpr ⟨⟨(i 0).val / 48, by omega⟩, Finset.mem_univ _,
      by unfold slD_at; exact mem_slD.mpr ⟨by dsimp only; omega, by dsimp only; omega⟩⟩
theorem slS_disjoint (r r' : Fin 8) (hr : r ≠ r') : Disjoint (slS r).view.set (slS r').view.set := by
  rw [slS_set, slS_set]
  exact Finset.disjoint_left.mpr fun i h h' => hr (Fin.ext ((mem_rectS.mp h).symm.trans (mem_rectS.mp h')))
theorem slS_cover : Finset.univ.biUnion slS_at = Finset.univ :=
  Finset.eq_univ_iff_forall.mpr fun i => by
    have hi : (i 0).val < 8 := (i 0).isLt
    exact Finset.mem_biUnion.mpr ⟨⟨(i 0).val, hi⟩, Finset.mem_univ _, by unfold slS_at; rw [slS_set]; exact mem_rectS.mpr rfl⟩
theorem slR_disjoint (r r' : Fin 8) (hr : r ≠ r') : Disjoint (slR r).view.set (slR r').view.set := by
  rw [slR_set, slR_set]
  exact Finset.disjoint_left.mpr fun i h h' => hr (Fin.ext ((mem_rectS.mp h).symm.trans (mem_rectS.mp h')))
theorem slR_cover : Finset.univ.biUnion slR_at = Finset.univ :=
  Finset.eq_univ_iff_forall.mpr fun i => by
    have hi : (i 0).val < 8 := (i 0).isLt
    exact Finset.mem_biUnion.mpr ⟨⟨(i 0).val, hi⟩, Finset.mem_univ _, by unfold slR_at; rw [slR_set]; exact mem_rectS.mpr rfl⟩

/-- The rows of the result: which of the two devices reduces them, as which chunk. -/
def rowsO (br : Fin 2 × Fin 8) : Finset S768x768.Idx := (ownO (if br.1 = 0 then c else py c) br.2).view.set
theorem mem_rowsO {b : Fin 2} {r : Fin 8} {i : S768x768.Idx} :
    i ∈ rowsO c (b, r) ↔ 384 * ((c.val + b.val) % 2) + 48 * r.val ≤ (i 0).val ∧ (i 0).val < 384 * ((c.val + b.val) % 2) + 48 * r.val + 48 := by
  have hlt := lt4 c
  unfold rowsO
  rw [mem_ownO]
  fin_cases b
  · exact Iff.rfl
  · rw [show (if ((⟨1, by decide⟩ : Fin 2), r).1 = 0 then c else py c) = py c from rfl, py_val]
    dsimp only
    rw [show (2 * (c.val / 2) + 1 - c.val % 2) % 2 = (c.val + 1) % 2 by omega]
theorem rowsO_disjoint (br br' : Fin 2 × Fin 8) (hr : br ≠ br') : Disjoint (rowsO c br) (rowsO c br') :=
  Finset.disjoint_left.mpr fun i h h' => by
    obtain ⟨b, r⟩ := br; obtain ⟨b', r'⟩ := br'
    have := (mem_rowsO c).mp h; have := (mem_rowsO c).mp h'
    exact hr (Prod.ext (Fin.ext (by dsimp only; omega)) (Fin.ext (by dsimp only; omega)))
theorem rowsO_cover : Finset.univ.biUnion (rowsO c) = Finset.univ :=
  Finset.eq_univ_iff_forall.mpr fun i => by
    have hi : (i 0).val < 768 := (i 0).isLt
    have hlt := lt4 c
    exact Finset.mem_biUnion.mpr ⟨(⟨(c.val + (i 0).val / 384) % 2, by omega⟩, ⟨(i 0).val % 384 / 48, by omega⟩), Finset.mem_univ _,
      (mem_rowsO c).mpr (by dsimp only; omega)⟩

omit [FloatOps F] in
theorem split_V (f : Buf (Elt F) ((c : Thread nD τ).loc cc0_scratch0)) :
    ((c : Thread nD τ).loc cc0_scratch0 ↦{fullShare} f : sProp 𝕄) = bigSep Finset.univ fun r => hV c r f :=
  Ring.pointsTo_blocks (ℓ := (c : Thread nD τ).loc cc0_scratch0) stA_at stA_disjoint stA_cover f
omit [FloatOps F] in
theorem split_sums (f : Buf (Elt F) ((c : Thread nD τ).loc cc0_scratch4)) :
    ((c : Thread nD τ).loc cc0_scratch4 ↦{fullShare} f : sProp 𝕄) = bigSep Finset.univ fun r => hD c r fullShare f :=
  Ring.pointsTo_blocks (ℓ := (c : Thread nD τ).loc cc0_scratch4) slD_at slD_disjoint slD_cover f
omit [FloatOps F] in
theorem split_S (f : Buf (Elt F) ((c : Thread nD τ).loc cc0_scratch2)) :
    ((c : Thread nD τ).loc cc0_scratch2 ↦{fullShare} f : sProp 𝕄) = bigSep Finset.univ fun r => hS c r f :=
  Ring.pointsTo_blocks (ℓ := (c : Thread nD τ).loc cc0_scratch2) slS_at slS_disjoint slS_cover f
omit [FloatOps F] in
theorem split_R (f : Buf (Elt F) ((c : Thread nD τ).loc cc0_scratch3)) :
    ((c : Thread nD τ).loc cc0_scratch3 ↦{fullShare} f : sProp 𝕄) = bigSep Finset.univ fun r => hR c r f :=
  Ring.pointsTo_blocks (ℓ := (c : Thread nD τ).loc cc0_scratch3) slR_at slR_disjoint slR_cover f

omit [FloatOps F] in
/-- The result: the rows the device reduces and the rows its `y` neighbour does. -/
theorem split_O (f : Buf (Elt F) ((c : Thread nD τ).loc main_v1)) :
    ((c : Thread nD τ).loc main_v1 ↦{fullShare} f : sProp 𝕄)
      = iprop((bigSep Finset.univ fun r => hO c r c f) ∗ bigSep Finset.univ fun r => hO c r (py c) f) := by
  rw [Ring.pointsTo_blocks (ℓ := (c : Thread nD τ).loc main_v1) (rowsO c) (rowsO_disjoint c) (rowsO_cover c) f, bigSep_univ_prod,
    bigSep_univ_eq_bigSepL [0, 1] (by decide) (by decide), bigSepL_cons_cons, bigSepL_singleton]
  rfl

/-! ## The rows of `A` a device does not read -/

/-- They are held through the run, untouched. -/
def restA (f : Buf (Elt F) ((c : Thread nD τ).loc main_arg0)) : sProp 𝕄 :=
  (c : Thread nD τ).loc main_arg0 ↦[Finset.univ \ Finset.univ.biUnion fun r : Fin 8 => (srcA c r).view.set]{fullShare} f

omit [FloatOps F] in
theorem split_A (f : Buf (Elt F) ((c : Thread nD τ).loc main_arg0)) :
    ((c : Thread nD τ).loc main_arg0 ↦{fullShare} f : sProp 𝕄) ⊣⊢ iprop((bigSep Finset.univ fun r => hA c r f) ∗ restA c f) := by
  have h := pointsTo_biUnion (Ix := Unit) (Name := ℕ) (U := UU) (Lvl := ℕ) (q := fullShare) (f := f) Finset.univ (fun r : Fin 8 => (srcA c r).view.set) (fun r _ r' _ hr => Finset.disjoint_left.mpr fun i h h' => by
    have := mem_srcA.mp h; have := mem_srcA.mp h'
    exact hr (Fin.ext (by omega)))
  unfold hA restA
  rw [← h]
  exact pointsTo_split_subset (Finset.subset_univ _)

end Cert.KernelIdeal.Mm

end
-- ==== Proof.Ghost.lean ====
/- The start: the cells opened, the rights to pay them dealt to the devices that do, the credit handed out. -/
module

public import proofs.«01_k».proof.Proof.Split

@[expose] public section

set_option maxRecDepth 65536

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (A : Dev nD → Vec F S768x384 .f32) (B : Dev nD → Vec F S384x768 .f32) (c : Dev nD)

/-! ## One resource per cell -/

/-- By kind and chunk; the load of `B`; the barrier. -/
def byKind (Φ : CS → sProp 𝕄) : sProp 𝕄 :=
  iprop((((bigSep Finset.univ fun r => Φ (ic 0 r)) ∗ (bigSep Finset.univ fun r => Φ (ic 1 r)) ∗ (bigSep Finset.univ fun r => Φ (ic 2 r))
    ∗ (bigSep Finset.univ fun r => Φ (ic 3 r)) ∗ (bigSep Finset.univ fun r => Φ (ic 4 r)) ∗ bigSep Finset.univ fun r => Φ (ic 5 r)) ∗ Φ il) ∗ Φ ib)

omit [FloatOps F] in
theorem bigSep_own (Φ : OS → sProp 𝕄) :
    bigSep Finset.univ Φ = iprop(((bigSep Finset.univ fun r => Φ (.inl (0, r))) ∗ (bigSep Finset.univ fun r => Φ (.inl (1, r))) ∗ (bigSep Finset.univ fun r => Φ (.inl (2, r)))
    ∗ (bigSep Finset.univ fun r => Φ (.inl (3, r))) ∗ (bigSep Finset.univ fun r => Φ (.inl (4, r))) ∗ bigSep Finset.univ fun r => Φ (.inl (5, r))) ∗ Φ (.inr ())) := by
  refine (BI.bigSep_univ_sum Φ).trans ?_
  rw [BI.bigSep_univ_of_subsingleton (), bigSep_univ_prod,
    bigSep_univ_eq_bigSepL [0, 1, 2, 3, 4, 5] (by decide) (by decide)]
  rfl
omit [FloatOps F] in
theorem bigSep_cells (Φ : CS → sProp 𝕄) : bigSep Finset.univ Φ = byKind Φ := by
  refine (BI.bigSep_univ_sum Φ).trans ?_
  rw [BI.bigSep_univ_of_subsingleton (), bigSep_own]
  rfl

/-! ## The cells and the rights minted -/

theorem cell_injective : Function.Injective (fun ck : Dev nD × CS => cell ck.1 ck.2) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨_, cell_injective⟩

/-- One right per cell, and a second one for the barrier. -/
abbrev TS : Type := CS ⊕ Unit
def tokAt (x : Dev nD × TS) : GSem nD τ sig × ℕ × Bool := Sum.elim (fun k => (cell x.1 k, 0, false)) (fun _ => (barCell x.1, 0, true)) x.2
theorem tokAt_injective : Function.Injective tokAt := by
  rintro ⟨c, k⟩ ⟨c', k'⟩ h
  have hb := congrArg (fun x : GSem nD τ sig × ℕ × Bool => x.2.2) h
  have hg := congrArg Prod.fst h
  rcases k with k | k <;> rcases k' with k' | k'
  · have := cell_injective (a₁ := (c, k)) (a₂ := (c', k')) hg
    rw [(Prod.mk.inj this).1, (Prod.mk.inj this).2]
  · exact absurd hb Bool.false_ne_true
  · exact absurd hb.symm Bool.false_ne_true
  · have h1 : c = c' := congrArg (fun g : GSem nD τ sig => g.1.1) hg
    rw [h1]
def allToks : Finset (GSem nD τ sig × ℕ × Bool) := Finset.univ.map ⟨tokAt, tokAt_injective⟩

def u₀ : UU :=
  (initOf (Pipeline.cells cfgs cellOf_inj) (Pipeline.launchToks cfgs cellOf_inj), initOf allCells allToks)

/-- The rights to pay device `c`'s own cells. -/
def mintedToks : sProp 𝕄 := iprop(byKind (fun k => dutyTok ER (cell c k) 0 false) ∗ dutyTok ER (barCell c) 0 true)

/-- What each device is dealt first. -/
def dealt : sProp 𝕄 :=
  iprop((bigSep Finset.univ fun k : CS => roundState ER (Rd A B) (cell c k) 0)
    ∗ (bigSep Finset.univ fun k : CS => iprop(atPos ER (cell c k) 0 ∅ 0 ∗ reached ER (cell c k) 0)) ∗ mintedToks c)

theorem fund_cells : BI.own (ER (initOf allCells allToks)) ⊢ (|==> bigSep Finset.univ (dealt A B) : sProp 𝕄) := by
  have hX (Φ : GSem nD τ sig → sProp 𝕄) : bigSep allCells Φ = bigSep Finset.univ fun c : Dev nD => bigSep Finset.univ fun k : CS => Φ (cell c k) := by
    unfold allCells; rw [bigSep_map, bigSep_univ_prod]; rfl
  have hT : bigSep allToks (fun x => (dutyTok ER x.1 x.2.1 x.2.2 : sProp 𝕄)) = bigSep Finset.univ fun c : Dev nD => mintedToks c := by
    unfold allToks; rw [bigSep_map, bigSep_univ_prod]
    refine bigSep_congr fun c _ => ?_
    unfold mintedToks; rw [← bigSep_cells]
    refine (BI.bigSep_univ_sum _).trans ?_
    rw [BI.bigSep_univ_of_subsingleton ()]
    rfl
  iintro HX
  imod (Rounds.fund ER (Rd A B) allCells allToks) $$ HX with ⟨Hst, Hr, Hat, Htok⟩
  imodintro
  ihave Hst := (Entails.of_eq (hX fun g => roundState ER (Rd A B) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## The counters -/

omit [FloatOps F] in
theorem unscopedSems0_eq : (unscopedSems0 c : sProp 𝕄) = semVal (barCell c) 0 := by
  unfold unscopedSems0; rw [bigSep_eq_bigSepL_of_eq [SemLoc.reg barS] (by decide) (by decide)]; rfl

omit [FloatOps F] in
theorem sems_eq : iprop(Pipeline.ownSems0 (Ix := Unit) (Name := ℕ) (U := UU) (Lvl := ℕ) (Val := Elt F) (τ := τ) osem c ∗ unscopedSems0 c)
    = (bigSep Finset.univ fun k : CS => semVal (cell c k) 0 : sProp 𝕄) := by
  rw [unscopedSems0_eq]
  refine Eq.trans ?_ (BI.bigSep_univ_sum _).symm
  rw [BI.bigSep_univ_of_subsingleton (I := Unit) ()]
  rfl

theorem cells_open :
    iprop(Pipeline.ownSems0 (Ix := Unit) (Name := ℕ) (U := UU) (Lvl := ℕ) (Val := Elt F) (τ := τ) osem c ∗ unscopedSems0 c ∗ dealt A B c)
      ⊢ |={Set.univ}=> iprop((bigSep Finset.univ fun k : CS => iprop(∃ κ : ℕ, cellInv ER (Rd A B) κ (cell c k)))
          ∗ (bigSep Finset.univ fun k : CS => iprop(atPos ER (cell c k) 0 ∅ 0 ∗ reached ER (cell c k) 0)) ∗ mintedToks c) := by
  have hopen : iprop((bigSep Finset.univ fun k : CS => semVal (cell c k) 0) ∗ bigSep Finset.univ fun k : CS => roundState ER (Rd A B) (cell c k) 0)
      ⊢ (|={Set.univ}=> bigSep Finset.univ fun k : CS => iprop(∃ κ : ℕ, cellInv ER (Rd A B) κ (cell c k)) : sProp 𝕄) := by
    rw [← bigSep_sep']
    exact (bigSep_mono fun k _ => (Rounds.body_intro ER (Rd A B) (cell c k)).trans inv_alloc).trans (bigSep_fupd _ _)
  unfold dealt
  iintro ⟨Hos, Hus, Hst, Hat, Htok⟩
  ihave Hv := (Entails.of_eq (sems_eq (F := F) c)) $$ [Hos Hus]
  · isplitl [Hos] <;> iassumption
  imod hopen $$ [Hv Hst] with Hinv
  · isplitl [Hv] <;> iassumption
  imodintro
  isplitl [Hinv]; · iexact Hinv
  isplitl [Hat]; · iexact Hat
  iexact Htok

/-! ## The rights dealt to who pays -/

/-- The rights device `c` uses: its own cells', but for what its neighbours' transfers bring. -/
def payToks : sProp 𝕄 :=
  iprop(((((bigSep Finset.univ fun r => tok c 0 r) ∗ (bigSep Finset.univ fun r => tok c 1 r) ∗ (bigSep Finset.univ fun r => tok (px c) 2 r)
    ∗ (bigSep Finset.univ fun r => tok c 3 r) ∗ (bigSep Finset.univ fun r => tok (py c) 4 r) ∗ bigSep Finset.univ fun r => tok c 5 r)
      ∗ dutyTok ER (loadCell c) 0 false) ∗ dutyTok ER (barCell (px c)) 0 false) ∗ dutyTok ER (barCell (py c)) 0 true)

omit [FloatOps F] in
theorem sep_eq {P P' Q Q' : sProp 𝕄} (h : P = P') (h' : Q = Q') : iprop(P ∗ Q) = iprop(P' ∗ Q') := by rw [h, h']

omit [FloatOps F] in
theorem toks_around : (bigSep Finset.univ fun c : Dev nD => (mintedToks c : sProp 𝕄)) = bigSep Finset.univ fun c : Dev nD => payToks c := by
  unfold mintedToks payToks byKind
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep']
  refine sep_eq (sep_eq (sep_eq (sep_eq rfl (sep_eq rfl (sep_eq ?_ (sep_eq rfl (sep_eq ?_ rfl))))) rfl) ?_) ?_
  · exact bigSep_univ_equiv flipX (fun c : Dev nD => (bigSep Finset.univ fun r : Fin 8 => tok c 2 r : sProp 𝕄))
  · exact bigSep_univ_equiv flipY (fun c : Dev nD => (bigSep Finset.univ fun r : Fin 8 => tok c 4 r : sProp 𝕄))
  · exact bigSep_univ_equiv flipX (fun c : Dev nD => (dutyTok ER (barCell c) 0 false : sProp 𝕄))
  · exact bigSep_univ_equiv flipY (fun c : Dev nD => (dutyTok ER (barCell c) 0 true : sProp 𝕄))

/-- The cells opened under the names `K`. -/
def opened (K : Dev nD × CS → ℕ) : sProp 𝕄 :=
  iprop((bigSep Finset.univ fun ck : Dev nD × CS => cellInv ER (Rd A B) (K ck) (cell ck.1 ck.2))
    ∗ bigSep Finset.univ fun ck : Dev nD × CS => reached ER (cell ck.1 ck.2) 0)
instance opened_persistent (K : Dev nD × CS → ℕ) : BI.Persistent (opened A B K) := by unfold opened; infer_instance

/-- What each device has once all is dealt. -/
def ready : sProp 𝕄 := iprop(∃ K, opened A B K ∗ byKind (fun k => atPos ER (cell c k) 0 ∅ 0) ∗ payToks c)

theorem regroup :
    (bigSep Finset.univ fun c : Dev nD => iprop((bigSep Finset.univ fun k : CS => iprop(∃ κ : ℕ, cellInv ER (Rd A B) κ (cell c k)))
          ∗ (bigSep Finset.univ fun k : CS => iprop(atPos ER (cell c k) 0 ∅ 0 ∗ reached ER (cell c k) 0)) ∗ mintedToks c) : sProp 𝕄)
      ⊢ bigSep Finset.univ (ready A B) := by
  rw [bigSep_sep', bigSep_sep', toks_around, ← bigSep_univ_prod (fun ck : Dev nD × CS => iprop(∃ κ : ℕ, cellInv ER (Rd A B) κ (cell ck.1 ck.2))),
    bigSep_congr (s := Finset.univ) (fun (c : Dev nD) _ => bigSep_sep' Finset.univ (fun k : CS => (atPos ER (cell c k) 0 ∅ 0 : sProp 𝕄)) (fun k => reached ER (cell c k) 0)),
    bigSep_sep', ← bigSep_univ_prod (fun ck : Dev nD × CS => (reached ER (cell ck.1 ck.2) 0 : sProp 𝕄))]
  iintro ⟨HI, ⟨Hat, HR⟩, Htok⟩
  ihave HK := (BI.bigSep_exists_pi Finset.univ (fun (ck : Dev nD × CS) (κ : ℕ) => (cellInv ER (Rd A B) κ (cell ck.1 ck.2) : sProp 𝕄))) $$ HI
  icases HK with ⟨%K, HI⟩
  have hdeal (c : Dev nD) : iprop(opened A B K ∗ (bigSep Finset.univ fun k : CS => (atPos ER (cell c k) 0 ∅ 0 : sProp 𝕄)) ∗ payToks c) ⊢ ready A B c := by
    unfold ready; rw [bigSep_cells]
    iintro H
    iexists K; iexact H
  have hall : iprop(opened A B K ∗ bigSep Finset.univ (fun c : Dev nD => bigSep Finset.univ fun k : CS => (atPos ER (cell c k) 0 ∅ 0 : sProp 𝕄)) ∗ bigSep Finset.univ fun c : Dev nD => payToks c)
      ⊢ bigSep Finset.univ (ready A B) :=
    (sep_mono_left (BI.bigSep_of_persistent Finset.univ (opened A B K))).trans (by
      rw [← bigSep_sep', ← bigSep_sep']; exact bigSep_mono fun c _ => hdeal c)
  iapply hall
  isplitl [HI HR]
  · unfold opened; isplitl [HI]; · iexact HI
    iexact HR
  isplitl [Hat]; · iexact Hat
  iexact Htok

theorem all_ready : (bigSep Finset.univ fun c => iprop(Pipeline.ownSems0 (Ix := Unit) (Name := ℕ) (U := UU) (Lvl := ℕ) (Val := Elt F) (τ := τ) osem c ∗ unscopedSems0 c ∗ dealt A B c) : sProp 𝕄)
    ⊢ |={Set.univ}=> bigSep Finset.univ (ready A B) :=
  ((bigSep_mono fun c _ => cells_open A B c).trans (bigSep_fupd _ _)).trans (BI.fupd_mono (regroup A B))

/-! ## The credit of the launch -/

theorem cell_eq_iff (a b : Dev nD) (k k' : CS) : cell a k = cell b k' ↔ a = b ∧ k = k' :=
  ⟨fun h => Prod.mk.inj (cell_injective (a₁ := (a, k)) (a₂ := (b, k')) h), fun ⟨h, h'⟩ => by rw [h, h']⟩

theorem tally_cell (a b : Dev nD) (k k' : CS) (N : ℕ) :
    (tallyAt (cell a k) () N : CellTallies nD τ sig Unit) (cell b k') () = if a = b ∧ k = k' then N else 0 := by
  rw [tallyAt_apply]
  exact if_congr ⟨fun h => ⟨((cell_eq_iff _ _ _ _).mp h.1).1.symm, ((cell_eq_iff _ _ _ _).mp h.1).2.symm⟩,
    fun h => ⟨(cell_eq_iff _ _ _ _).mpr ⟨h.1.symm, h.2.symm⟩, rfl⟩⟩ rfl rfl

theorem owed_at (d : Dev nD) (k : CS) :
    O₀ d (cell c k) () = (∑ r : Fin 8, if px d = c ∧ ic 2 r = k then NX else 0) + (∑ r : Fin 8, if py d = c ∧ ic 4 r = k then NX else 0)
      + (if py d = c ∧ ib = k then 1 else 0) + (if px d = c ∧ ib = k then 1 else 0) := by
  unfold O₀ oX oY
  rw [Pi.add_apply, Finsupp.add_apply, Pi.add_apply, Finsupp.add_apply, Pi.add_apply, Finsupp.add_apply, Finset.sum_apply, Finset.sum_apply,
    Finsupp.finset_sum_apply, Finsupp.finset_sum_apply, Finset.filter_true_of_mem (fun _ _ => Nat.zero_le _)]
  refine congrArg₂ _ (congrArg₂ _ (congrArg₂ _ (Finset.sum_congr rfl fun r _ => ?_) (Finset.sum_congr rfl fun r _ => ?_)) ?_) ?_
  · exact tally_cell (px d) c (ic 2 r) k NX
  · exact tally_cell (py d) c (ic 4 r) k NX
  · exact tally_cell (py d) c ib k 1
  · exact tally_cell (px d) c ib k 1

/-- What all devices owe a cell together: to a receipt its transfer, to the barrier two units. -/
theorem owed_all (k : CS) : ∑ d : Dev nD, O₀ d (cell c k) () =
    (∑ r : Fin 8, if ic 2 r = k then NX else 0) + (∑ r : Fin 8, if ic 4 r = k then NX else 0) + (if ib = k then 2 else 0) := by
  have pick (e : Dev nD ≃ Dev nD) (N : ℕ) (P : Prop) [Decidable P] : ∑ d : Dev nD, (if e d = c ∧ P then N else 0) = if P then N else 0 := by
    rw [Equiv.sum_comp e (fun d => if d = c ∧ P then N else 0)]
    by_cases hP : P
    · simp only [hP, and_true, if_true]
      rw [Finset.sum_ite_eq' Finset.univ c, if_pos (Finset.mem_univ _)]
    · simp only [hP, and_false, if_false, Finset.sum_const_zero]
  have hx : (∑ d : Dev nD, ∑ r : Fin 8, if px d = c ∧ ic 2 r = k then NX else 0) = ∑ r : Fin 8, if ic 2 r = k then NX else 0 :=
    Finset.sum_comm.trans (Finset.sum_congr rfl fun r _ => pick flipX NX (ic 2 r = k))
  have hy : (∑ d : Dev nD, ∑ r : Fin 8, if py d = c ∧ ic 4 r = k then NX else 0) = ∑ r : Fin 8, if ic 4 r = k then NX else 0 :=
    Finset.sum_comm.trans (Finset.sum_congr rfl fun r _ => pick flipY NX (ic 4 r = k))
  simp only [owed_at, Finset.sum_add_distrib]
  rw [hx, hy, show (∑ d : Dev nD, if py d = c ∧ ib = k then 1 else 0) = _ from pick flipY 1 (ib = k),
    show (∑ d : Dev nD, if px d = c ∧ ib = k then 1 else 0) = _ from pick flipX 1 (ib = k)]
  by_cases hb : ib = k
  · rw [if_pos hb, if_pos hb]
  · rw [if_neg hb, if_neg hb]

/-- The credit a device starts with: for its receipts and for its barrier. -/
def credits : sProp 𝕄 :=
  iprop((bigSep Finset.univ fun r => crd c 2 r) ∗ (bigSep Finset.univ fun r => crd c 4 r) ∗ cred (tallyAt (barCell c) () 2))

omit [FloatOps F] in
theorem credit_at (k : CS) (N : ℕ) (h : (∑ r : Fin 8, if ic 2 r = k then NX else 0) + (∑ r : Fin 8, if ic 4 r = k then NX else 0) + (if ib = k then 2 else 0) = N) :
    (cred (tallyOn (cell c k) (launchCredit (Pipeline.owing O₀) 0 (cell c k))) : sProp 𝕄) = cred (tallyAt (cell c k) () N) := by
  refine congrArg _ ?_
  unfold tallyAt
  refine congrArg _ (Finsupp.ext fun u => ?_)
  cases u
  rw [Pipeline.launchCredit_owing, Finsupp.single_eq_same, owed_all, h]

omit [FloatOps F] in
theorem credits_intro : (Pipeline.launchCred O₀ c : sProp 𝕄) ⊢ credits c := by
  have hsub : (Pipeline.launchCred O₀ c : sProp 𝕄)
      ⊢ bigSep Finset.univ fun k : CS => cred (tallyOn (cell c k) (launchCredit (Pipeline.owing O₀) 0 (cell c k))) := by
    unfold Pipeline.launchCred
    have hmap (Φ : SemLoc sig → sProp 𝕄) : bigSep Finset.univ Φ ⊢ bigSep Finset.univ fun k : CS => Φ (csem k) :=
      BIBase.Entails.trans (BI.bigSep_subset (Finset.subset_univ (Finset.univ.map ⟨csem, csem_injective⟩))) (Entails.of_eq (bigSep_map _))
    exact hmap _
  have h2 (r : Fin 8) : (cred (tallyOn (cell c (ic 2 r)) (launchCredit (Pipeline.owing O₀) 0 (cell c (ic 2 r)))) : sProp 𝕄) = crd c 2 r :=
    credit_at c (ic 2 r) NX (by simp [ic, ib])
  have h4 (r : Fin 8) : (cred (tallyOn (cell c (ic 4 r)) (launchCredit (Pipeline.owing O₀) 0 (cell c (ic 4 r)))) : sProp 𝕄) = crd c 4 r :=
    credit_at c (ic 4 r) NX (by simp [ic, ib])
  have hb : (cred (tallyOn (cell c ib) (launchCredit (Pipeline.owing O₀) 0 (cell c ib))) : sProp 𝕄) = cred (tallyAt (barCell c) () 2) :=
    credit_at c ib 2 (by simp [ic, ib])
  refine hsub.trans ?_
  rw [bigSep_cells]
  unfold byKind credits
  dsimp only
  rw [hb, bigSep_congr (s := Finset.univ) fun r _ => h2 r, bigSep_congr (s := Finset.univ) fun r _ => h4 r]
  iintro ⟨⟨⟨-, -, H2, -, H4, -⟩, -⟩, Hb⟩
  isplitl [H2]; · iexact H2
  isplitl [H4] <;> iassumption

end Cert.KernelIdeal.Mm

end
-- ==== Proof.Launch.lean ====
/- The whole machine's run: every device's result, the arguments unchanged, every counter back at zero. -/
module

public import proofs.«01_k».proof.Proof.Ghost
public import Idealize.ShloMosaic.Lib.Pipeline.CollectiveSegs

@[expose] public section

set_option maxRecDepth 65536

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

section Ends

variable (A : Dev nD → Vec F S768x384 .f32) (B : Dev nD → Vec F S384x768 .f32) (c : Dev nD)

/-- A device before its run. -/
def before : sProp 𝕄 := iprop((∃ K, know A B K) ∗ inAll A B c)

/-- What the launch hands a device for its run, apart from its scratch buffers. -/
def given : sProp 𝕄 :=
  iprop(ready A B c ∗ levAts L lv ∗ credits c ∗ (bigSep Finset.univ fun r => hA c r (A c)) ∗ hB c (B c)
    ∗ (bigSep Finset.univ fun r => iprop(∃ f, hO c r c f)) ∗ bigSep Finset.univ fun r => iprop(∃ f, hO c r (py c) f))

omit [FloatOps F] in
/-- Each part at some contents, of all at one. -/
theorem some_each {X : Type} (Φ : Fin 8 → X → sProp 𝕄) (f : X) :
    bigSep Finset.univ (fun r => Φ r f) ⊢ bigSep Finset.univ fun r => iprop(∃ f, Φ r f) :=
  bigSep_mono fun r _ => by
    show (_ : sProp 𝕄) ⊢ _
    iintro H
    iexists f; iexact H

theorem before_intro :
    iprop(given A B c ∗ Pipeline.prefHeld Pipeline.Prefetch.none c (fun _ => fullShare.right) (fun k => k.elim0) ∗ Pipeline.scopedRest cfg0.spec c)
      ⊢ before A B c := by
  rw [scopedRest0_eq]
  unfold given ready payToks credits byKind before opened
  iintro ⟨⟨⟨%K, ⟨HI, HR⟩, ⟨⟨⟨Hp0, Hp1, Hp2, Hp3, Hp4, Hp5⟩, Hpl⟩, Hpb⟩, ⟨⟨⟨⟨Ht0, Ht1, Ht2, Ht3, Ht4, Ht5⟩, Htl⟩, Htx⟩, Hty⟩⟩, Hlev, ⟨Hc2, Hc4, Hcb⟩, HA, HB, HO, HO'⟩,
    -, ⟨%f0, H0⟩, ⟨%f1, H1⟩, ⟨%f2, H2⟩, ⟨%f3, H3⟩, ⟨%f4, H4⟩⟩
  isplitl [HI HR Hlev]
  · iexists K; unfold know
    isplitl [HI]; · iexact HI
    isplitl [HR] <;> iassumption
  ihave H0 := (Entails.of_eq (split_V c f0)) $$ H0
  ihave H0 := (some_each (fun r f => hV c r f) f0) $$ H0
  ihave H2 := (Entails.of_eq (split_S c f2)) $$ H2
  ihave H2 := (some_each (fun r f => hS c r f) f2) $$ H2
  ihave H3 := (Entails.of_eq (split_R c f3)) $$ H3
  ihave H3 := (some_each (fun r f => hR c r f) f3) $$ H3
  ihave H4 := (Entails.of_eq (split_sums c f4)) $$ H4
  ihave H4 := (some_each (fun r f => hD c r fullShare f) f4) $$ H4
  unfold inAll
  isplitl [HB H1 Htl Hpl]
  · isplitl [HB]; · iexact HB
    isplitl [H1]
    · iexists f1; unfold hW; iexact H1
    isplitl [Htl]; · iexact Htl
    iexact Hpl
  isplitl [HA H0 Ht0]
  · unfold inStartA; rw [bigSep_sep', bigSep_sep']
    isplitl [HA]; · iexact HA
    isplitl [H0] <;> iassumption
  isplitl [H3 HO' Htx Hty Hcb Hpb]
  · unfold inBar
    isplitl [H3]; · iexact H3
    isplitl [HO']; · iexact HO'
    isplitl [Htx]; · iexact Htx
    isplitl [Hty]; · iexact Hty
    isplitl [Hcb]; · iexact Hcb
    iexact Hpb
  isplitl [Hp0 H2 Ht1 Ht2]
  · unfold ownX; rw [bigSep_sep', bigSep_sep', bigSep_sep']
    isplitl [Hp0]; · iexact Hp0
    isplitl [H2]; · iexact H2
    isplitl [Ht1] <;> iassumption
  isplitl [Hc2 Hp2 H4 HO Ht5 Ht3 Ht4]
  · unfold ownY; rw [bigSep_sep', bigSep_sep', bigSep_sep', bigSep_sep', bigSep_sep', bigSep_sep']
    isplitl [Hc2]; · iexact Hc2
    isplitl [Hp2]; · iexact Hp2
    isplitl [H4]; · iexact H4
    isplitl [HO]; · iexact HO
    isplitl [Ht5]; · iexact Ht5
    isplitl [Ht3] <;> iassumption
  isplitl [Hc4 Hp4]
  · unfold inWaitY; rw [bigSep_sep']
    isplitl [Hc4]; · iexact Hc4
    iexact Hp4
  unfold ownEnd; rw [bigSep_sep', bigSep_sep']
  isplitl [Hp5]; · iexact Hp5
  isplitl [Hp3]; · iexact Hp3
  iexact Hp1

/-- What a device gives back to be read. -/
def kept : sProp 𝕄 :=
  iprop((bigSep Finset.univ fun r => hA c r (A c)) ∗ hB c (B c) ∗ ((c : Thread nD τ).loc main_v1 ↦{fullShare} oBuf A B c) ∗ unscopedSems0 c)

theorem after_exit : outAll A B c ⊢ iprop(kept A B c ∗ Pipeline.ownSems0 osem c ∗ Pipeline.scopedRest cfg0.spec c) := by
  rw [scopedRest0_eq]
  unfold outAll outChunk outWaitY outWaitOwn kept Pipeline.ownSems0
  rw [bigSep_own, unscopedSems0_eq, split_O]
  simp only [bigSep_sep']
  iintro ⟨⟨HW, HB, Hzl⟩, Hzb, ⟨⟨HA, HV, Hz0⟩, ⟨HR, Hz2⟩, ⟨HO', Hz4⟩, ⟨HO, HD, HS, Hz5, Hz3, Hz1⟩⟩⟩
  isplitl [HA HB HO HO' Hzb]
  · isplitl [HA]; · iexact HA
    isplitl [HB]; · iexact HB
    isplitl [HO HO']
    · isplitl [HO] <;> iassumption
    iexact Hzb
  isplitl [Hz0 Hz1 Hz2 Hz3 Hz4 Hz5 Hzl]
  · isplitr [Hzl]
    · isplitl [Hz0]; · iexact Hz0
      isplitl [Hz1]; · iexact Hz1
      isplitl [Hz2]; · iexact Hz2
      isplitl [Hz3]; · iexact Hz3
      isplitl [Hz4]; · iexact Hz4
      iexact Hz5
    iexact Hzl
  isplitl [HV]
  · iexists (aBuf A c); rw [split_V]; iexact HV
  isplitl [HW]
  · iexists (B c); unfold hW; iexact HW
  isplitl [HS]
  · iexists (sBuf A B c); rw [split_S]; iexact HS
  isplitl [HR]
  · iexists (rBuf A B c); rw [split_R]; iexact HR
  iexists (dBuf A B c); rw [split_sums]; iexact HD

end Ends

section Main

variable (m : (ℓ : Loc nD τ sig) → Buf (Elt F) ℓ) (ρ : Dev nD → PrngReg)

/-- The arguments as launched. -/
def argA (c : Dev nD) : Vec F S768x384 .f32 := m ((c : Thread nD τ).loc main_arg0)
def argB (c : Dev nD) : Vec F S384x768 .f32 := m ((c : Thread nD τ).loc main_arg1)

def dats (_ : Fin 1) (c : Dev nD) : Dat τ (Elt F) Unit ℕ UU ℕ cfg0 c where
  A w := w.elim0
  after w _ := w.elim0
  Φ t := match t with
    | ⟨0, _⟩ => before (argA m) (argB m) c
    | ⟨_ + 1, _⟩ => outAll (argA m) (argB m) c
  q _ := fullShare
  owed t := match t with
    | ⟨0, _⟩ => O₀ c
    | ⟨_ + 1, _⟩ => 0

theorem body_obligation (c : Dev nD) : BodyObligation (dats m 0 c) (defs₀ (F := F)) 𝒱₀ () Set.univ := fun t => by
  rw [fin_N0 t]
  show iprop(before (argA m) (argB m) c ∗ (dats m 0 c).owesAt () t0_0.castSucc ∗ _) ⊢ wp frame (wpE (defs₀ (F := F)) 𝒱₀ (c : Thread nD τ) none) Set.univ (bodyAt0 t0_0)
    fun _ => iprop(outAll (argA m) (argB m) c ∗ (dats m 0 c).owesAt () t0_0.succ ∗ _)
  rw [body_eq]
  unfold before
  iintro ⟨⟨⟨%K, HI⟩, Hin⟩, ⟨%W, -, HO⟩, -⟩
  ihave H := (run_passes (argA m) (argB m) K c) $$ [HI Hin HO]
  · isplitl [HI]; · iexact HI
    isplitl [Hin]; · iexact Hin
    iexists W; iexact HO
  unfold run at *
  iapply (wp_wand _ _ _) $$ H
  iintro %_ ⟨Hout, ⟨%W', HO⟩⟩
  isplitl [Hout]; · iexact Hout
  isplitl [HO]
  · iexists W'
    isplitr; · ipureintro; exact fun _ _ => Or.inl trivial
    iexact HO
  rw [Finset.univ_eq_empty, BI.bigSep_empty]
  iempintro

theorem ownSemFacts : Pipeline.OwnSemFacts cfg0.spec osem := ⟨osem_facts.1, osem_facts.2, fun _ w => w.elim0⟩

theorem waits (c : Dev nD) : (levAts L lv : sProp 𝕄) ⊢ Pipeline.cellsWaits cfgs (dats m) () 0 c :=
  Pipeline.cellsWaits_intro cfgs (dats m) () 0 c fun w _ _ => w.elim0

/-- What the launch leaves with the machine: the rows of `A` the run does not read. -/
theorem given_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (argA m) (argB m) c)
      ⊢ |={Set.univ}=> iprop(given (argA m) (argB m) c ∗ restA c (argA m c)) := by
  rw [Pipeline.unscopedRestP_none, unscopedRest0_eq, split_O]
  unfold given
  iintro ⟨⟨HA, HB, HO, HO'⟩, Hlev, Hcr, -, Hg⟩
  ihave Hcr := (credits_intro (F := F) c) $$ Hcr
  ihave HA := (split_A c _).1 $$ HA
  icases HA with ⟨HA, Hrest⟩
  ihave HO := (some_each (fun r f => hO c r c f) _) $$ HO
  ihave HO' := (some_each (fun r f => hO c r (py c) f) _) $$ HO'
  imodintro
  isplitr [Hrest]
  · isplitl [Hg]; · iexact Hg
    isplitl [Hlev]; · iexact Hlev
    isplitl [Hcr]; · iexact Hcr
    isplitl [HA]; · unfold argA; iexact HA
    isplitl [HB]; · unfold hB argB; iexact HB
    isplitl [HO] <;> iassumption
  · unfold argA; iexact Hrest

/-- What a final memory holds of a device. -/
def Good (c : Dev nD) (s : MemSt nD τ sig (Elt F)) : Prop :=
  (s.mem ((c : Thread nD τ).loc main_v1) = oBuf (argA m) (argB m) c
    ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

omit [FloatOps F] in
/-- A buffer held whole is what the memory holds there. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) (Finset.univ : Finset Unit) (fun _ => ℓ) (fun _ => f) s'
  rw [BI.bigSep_univ_of_subsingleton ()] at h
  iintro H
  ihave H := h $$ H
  icases H with ⟨%hm, HSI⟩
  isplitr; · ipureintro; exact hm () (Finset.mem_univ _)
  iexact HSI

theorem read_back (c : Dev nD) (s' : Phys nD τ sig (Elt F)) :
    iprop(kept (argA m) (argB m) c ∗ restA c (argA m c) ∗ SI s') ⊢ |={Set.univ}=> iprop(⌜Good m c s'.mem⌝ ∗ SI s') := by
  unfold kept
  iintro ⟨⟨HA, HB, HO, Hz⟩, Hrest, HSI⟩
  ihave HA := (split_A c (argA m c)).2 $$ [HA Hrest]
  · isplitl [HA] <;> iassumption
  ihave H := (read_one ((c : Thread nD τ).loc main_arg0) (argA m c) s') $$ [HA HSI]
  · isplitl [HA] <;> iassumption
  icases H with ⟨%h0, HSI⟩
  ihave H := (read_one ((c : Thread nD τ).loc main_arg1) (argB m c) s') $$ [HB HSI]
  · isplitl [HB]; · unfold hB; iexact HB
    iexact HSI
  icases H with ⟨%h1, HSI⟩
  ihave H := (read_one ((c : Thread nD τ).loc main_v1) (oBuf (argA m) (argB m) c) s') $$ [HO HSI]
  · isplitl [HO] <;> iassumption
  icases H with ⟨%h2, HSI⟩
  imod (Pipeline.unscopedSems0_read (X := unscopedSems0 c) (c := c) fupd_intro s') $$ [Hz HSI] with ⟨%h3, HSI⟩
  · isplitl [Hz] <;> iassumption
  imodintro
  isplitr; · ipureintro; exact ⟨⟨h2, h0, h1⟩, h3⟩
  iexact HSI

/-- From any memory with all counters at zero every execution ends; at the end each device's result holds the
    assembled sums, the arguments are unchanged and all counters are zero. -/
theorem run_main : θ_run defs (onTc (τ := τ) (main (F := F))) ⟨m, fun _ => 0, ρ⟩ (fun r => (∀ c : Dev nD,
      r.2.mem ((c : Thread nD τ).loc main_v1) = oBuf (argA m) (argB m) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := dealt (argA m) (argB m)) (G' := ready (argA m) (argB m)) (u₀ := u₀)
    (hu₀ := by
      unfold u₀
      iintro Hu
      ihave H := (ownU_pair _ _) $$ Hu
      icases H with ⟨HP, HX⟩
      imod (fund_cells (argA m) (argB m)) $$ HX with HG
      imodintro
      isplitl [HP] <;> iassumption)
    (hglob := all_ready (argA m) (argB m))
    (hA := fun _ w => w.elim0) (hpf := fun _ k => k.elim0)
    (X := given (argA m) (argB m)) (Y := kept (argA m) (argB m)) (Z := fun c => restA c (argA m c))
    (hX := given_intro m ρ) (hin := before_intro (argA m) (argB m)) (hout := after_exit (argA m) (argB m))
    (QY := Good m) (hY := read_back m)
    (hQ := fun _ h hs => ⟨fun c => (h c).2.2.1, sem_eq_zero hs fun c => (h c).2.2.2⟩)

end Main

end Cert.KernelIdeal.Mm

end
-- ==== Proof.Value.lean ====
/- What the assembled result is, over the extended reals: the product of the whole matrices.

   A device's partial product of a row sums over one half of the contracted dimension; its `x` neighbour's sums
   over the other half; the two together are the sum over the whole dimension. -/
module

public import proofs.«01_k».proof.Proof.Launch
public import Idealize.ShloMosaic.Lib.KernelVsHost
public import Idealize.ShloMosaic.Lib.StackMember
public import Idealize.ShloMosaic.Lib.ValueIdx
public import Idealize.ShloMosaic.Lib.Layout

@[expose] public section

set_option maxRecDepth 65536

noncomputable section

namespace Cert.KernelIdeal.Mm

open Idealize.ShloMosaic Idealize.ShloMosaic.TcCoe Idealize.ShloMosaic.ValueIdx
open Cert.KernelIdeal.Gen

/-! The two whole matrices. -/

variable (a b : Vec Ideal S768x768 .f32)

/-- The product of the entries met at `k` on the way to entry `(n, j)`; the sum of a half of these. -/
def term (n j k : Fin 768) : EReal := a (ix2 n k) * b (ix2 k j)
def half (n j : Fin 768) (x : ℕ) (hx : x < 2) : EReal := ∑ k : Fin 384, term a b n j ⟨384 * x + k.val, by omega⟩

theorem halves (n j : Fin 768) : half a b n j 0 (by decide) + half a b n j 1 (by decide) = ∑ k : Fin 768, term a b n j k := by
  refine Eq.trans ?_ (Fin.sum_univ_add (a := 384) (b := 384) (term a b n j)).symm
  unfold half
  refine congrArg₂ _ (Finset.sum_congr rfl fun k _ => congrArg _ (Fin.ext ?_)) (Finset.sum_congr rfl fun k _ => congrArg _ (Fin.ext ?_))
  · show 384 * 0 + k.val = k.val; omega
  · show 384 * 1 + k.val = 384 + k.val; omega

/-- The halves named by a number and by the other one. -/
theorem halves_of (n j : Fin 768) (x y : ℕ) (hx : x < 2) (hy : y < 2) (h : y = 1 - x) :
    half a b n j x hx + half a b n j y hy = ∑ k : Fin 768, term a b n j k := by
  rw [← halves]
  have : x = 0 ∨ x = 1 := by omega
  rcases this with rfl | rfl
  · subst h; rfl
  · subst h; exact add_comm _ _

/-! ## What a device works on -/

variable (A : Dev nD → Vec Ideal S768x384 .f32) (B : Dev nD → Vec Ideal S384x768 .f32)

/-- Each device holds the columns of `a` and the rows of `b` that its `x` names. -/
def Cut : Prop := ∀ c : Dev nD,
  (∀ (n : Fin 768) (k : Fin 384), A c (ix2 n k) = a (ix2 n ⟨384 * (c.val / 2) + k.val, by have := lt4 c; omega⟩))
  ∧ (∀ (k : Fin 384) (j : Fin 768), B c (ix2 k j) = b (ix2 ⟨384 * (c.val / 2) + k.val, by have := lt4 c; omega⟩ j))

/-- The row of the whole matrix that is row `i` of chunk `r` of device `c`. -/
def rowAt (c : Dev nD) (r : Fin 8) (i : Fin 48) : Fin 768 := ⟨384 * (c.val % 2) + 48 * r.val + i.val, by omega⟩

theorem aChunk_at (c : Dev nD) (r : Fin 8) (i : Fin 48) (k : Fin 384) : aChunk A c r (ix2 i k) = A c (ix2 (rowAt c r i) k) := by
  show A c ((srcA c r).view.emb (ix2 i k)) = _
  refine congrArg (A c) (Shape.idx_ext₂ ?_ ?_)
  · show k0_off1 c (BitVec.ofNat 32 (48 * r.val)) 0 + 1 * i.val = _
    rw [off1_0]; show _ = 384 * (c.val % 2) + 48 * r.val + i.val; omega
  · show k0_off1 c (BitVec.ofNat 32 (48 * r.val)) 1 + 1 * k.val = _
    rw [off1_1]; show _ = k.val; omega

variable {a b A B}

theorem part_at (h : Cut a b A B) (c : Dev nD) (r : Fin 8) (i : Fin 48) (j : Fin 768) :
    part A B c r (ix2 i j) = half a b (rowAt c r i) j (c.val / 2) (by have := lt4 c; omega) := by
  have hd : dot_S48x384_S384x768_S48x768_1_0_0_1_n_n = DotDims.plain 48 384 768 := rfl
  unfold part k0_pay4 k0_pay1
  dsimp only
  rw [truncf_apply, matmul_zero_eq_dotGeneral, hd, StackMember.dotGeneral_plain_apply]
  unfold half term
  refine Finset.sum_congr rfl fun k _ => ?_
  rw [truncf_apply, truncf_apply, aChunk_at, (h c).1, (h c).2]

/-- Entry `(n, j)` of the result on any device. -/
theorem oBuf_at (h : Cut a b A B) (c : Dev nD) (n j : Fin 768) : oBuf A B c (ix2 n j) = ∑ k : Fin 768, term a b n j k := by
  have hc := lt4 c
  have hd : (rowDev c n.val).val % 2 = n.val / 384 := by
    unfold rowDev
    split
    · omega
    · rw [py_val]; omega
  generalize hg : rowDev c n.val = d at hd
  have hd4 := lt4 d
  have e : oBuf A B c (ix2 n j) = redChunk A B d ⟨n.val % 384 / 48, by omega⟩ (ix2 ⟨n.val % 384 % 48, by omega⟩ j) := by
    show dBuf A B (rowDev c n.val) _ = _
    rw [hg]
    refine rows_at _ _ _ _ ?_ rfl
    show n.val % 384 = 48 * (n.val % 384 / 48) + n.val % 384 % 48
    omega
  rw [e, redChunk_eq, addf_apply, part_at h, part_at h]
  have r1 : rowAt d ⟨n.val % 384 / 48, by omega⟩ ⟨n.val % 384 % 48, by omega⟩ = n := Fin.ext (by
    show 384 * (d.val % 2) + 48 * (n.val % 384 / 48) + n.val % 384 % 48 = n.val
    omega)
  have r2 : rowAt (px d) ⟨n.val % 384 / 48, by omega⟩ ⟨n.val % 384 % 48, by omega⟩ = n := Fin.ext (by
    show 384 * ((px d).val % 2) + 48 * (n.val % 384 / 48) + n.val % 384 % 48 = n.val
    rw [px_val]; omega)
  rw [r1, r2]
  exact halves_of a b n j _ _ _ _ (by rw [px_val]; omega)

end Cert.KernelIdeal.Mm

end
-- ==== Proof.lean ====
/- The proof of the five claims: the kernel and its idealization end with their arguments unchanged and every
   counter at zero, so does the reference, the idealization is the kernel's own text, and over the extended reals
   the kernel leaves on every device the product of the two whole matrices. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem
open Cert.KernelIdeal.Mm (run_main argA argB oBuf oBuf_at Cut term)

/-- The kernel's run, at the machine's float values. -/
theorem frame_p : Cert.quiescent_Kernel := fun m ρ _ =>
  (θ_run Cert.KernelIdeal.defs _ _).mono (fun _ h => ⟨fun c => (h.1 c).2, h.2⟩) (run_main (F := Bits) m ρ)

/-- The same run over the extended reals. -/
theorem frame_pi : Cert.quiescent_KernelIdeal := fun m ρ _ =>
  (θ_run Cert.KernelIdeal.defs _ _).mono (fun _ h => ⟨fun c => (h.1 c).2, h.2⟩) (run_main (F := Ideal) m ρ)

/-- The reference writes neither argument, and has no counter at all. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result as a function of the two whole matrices. -/
def product (a b : Vec Ideal ⟨2, ![768, 768]⟩ .f32) : Vec Ideal ⟨2, ![768, 768]⟩ .bf16 :=
  truncf (F := Ideal) .bf16 (Host.dotGeneral Cert.ReferenceIdeal.dot_S768x768_S768x768_S768x768_1_0_0_1_n_n none
    (truncf .bf16 a Cert.ReferenceIdeal.Gen.facts.bitsLt_bf16_f32) (truncf .bf16 b Cert.ReferenceIdeal.Gen.facts.bitsLt_bf16_f32))
    Cert.ReferenceIdeal.Gen.facts.bitsLt_bf16_f32

theorem product_at (a b : Vec Ideal ⟨2, ![768, 768]⟩ .f32) (n j : Fin 768) : product a b (ix2 n j) = ∑ k : Fin 768, term a b n j k := by
  have hd : Cert.ReferenceIdeal.dot_S768x768_S768x768_S768x768_1_0_0_1_n_n = DotDims.plain 768 768 768 := rfl
  unfold product
  rw [truncf_apply, hd, StackMember.dotGeneral_plain_apply]
  rfl

/-- The blocks the devices hold are the columns and rows their `x` coordinates name. -/
theorem cut_of_blocks (a b : Vec Ideal ⟨2, ![768, 768]⟩ .f32) (A : Dev Cert.KernelIdeal.nD → Vec Ideal ⟨2, ![768, 384]⟩ .f32)
    (B : Dev Cert.KernelIdeal.nD → Vec Ideal ⟨2, ![384, 768]⟩ .f32)
    (hA : ∀ c, A c = Layout.blockN ⟨2, ![768, 384]⟩ ⟨2, ![768, 768]⟩ (Layout.meshBlock [2, 2] ![[], [0]] c) a)
    (hB : ∀ c, B c = Layout.blockN ⟨2, ![384, 768]⟩ ⟨2, ![768, 768]⟩ (Layout.meshBlock [2, 2] ![[0], []] c) b) : Cut a b A B := by
  intro c
  have hc := Cert.KernelIdeal.Mm.lt4 c
  refine ⟨fun n k => ?_, fun k j => ?_⟩
  · rw [hA, Layout.blockN_apply]
    refine congrArg a (Shape.idx_ext₂ ?_ ?_)
    · show 0 * 768 + n.val = n.val; omega
    · show (c.val / (2 * 1) % 2 * 1 + 0) * 384 + k.val = 384 * (c.val / 2) + k.val; omega
  · rw [hB, Layout.blockN_apply]
    refine congrArg b (Shape.idx_ext₂ ?_ ?_)
    · show (c.val / (2 * 1) % 2 * 1 + 0) * 384 + k.val = 384 * (c.val / 2) + k.val; omega
    · show 0 * 768 + j.val = j.val; omega

theorem algebraic : Cert.algebraic_KernelIdeal_ReferenceIdeal := by
  intro m ρ m' ρ' _ hagree
  have hcut := cut_of_blocks _ _ (argA m) (argB m) (fun c => (hagree c).1) (fun c => (hagree c).2)
  refine ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
     (θ_run Cert.KernelIdeal.defs _ _).mono (fun _ h c => ⟨(h.1 c).1.trans ?_, (h.1 c).2⟩) (run_main (F := Ideal) m ρ),
    (θ_run Cert.ReferenceIdeal.defs _ _).mono (fun _ h => h 0) (Cert.ReferenceIdeal.Value.run (F := Ideal) m' ρ')⟩
  funext i
  rw [eq_ix2 i]
  exact (oBuf_at hcut c (i 0) (i 1)).trans (product_at _ _ (i 0) (i 1)).symm

theorem claim : Cert.Claim := ⟨Cert.Kernel.Gen.facts, Cert.KernelIdeal.Gen.facts, Cert.ReferenceIdeal.Gen.facts,
  frame_p, frame_pi, frame_ri, trivial, algebraic⟩

end Cert.Proof

end
